-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v511) = v0 c
          ∧ r.2.mem ((c.tc : Thread Cert.ReferenceIdeal.nD Cert.ReferenceIdeal.τ).loc Cert.ReferenceIdeal.main_v513) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x512x64 : Shape := ⟨3, ![32, 512, 64]⟩
abbrev S64x64 : Shape := ⟨2, ![64, 64]⟩
abbrev S32x4x128x8x8 : Shape := ⟨5, ![32, 4, 128, 8, 8]⟩
abbrev S32x8x4x8x128 : Shape := ⟨5, ![32, 8, 4, 8, 128]⟩
abbrev S_ : Shape := ⟨0, ![]⟩
abbrev S32x8x8x16 : Shape := ⟨4, ![32, 8, 8, 16]⟩
abbrev S32x64x8x4x8x128 : Shape := ⟨6, ![32, 64, 8, 4, 8, 128]⟩
abbrev S8x8x16 : Shape := ⟨3, ![8, 8, 16]⟩
abbrev S1x8x1x8x16 : Shape := ⟨5, ![1, 8, 1, 8, 16]⟩
abbrev S16 : Shape := ⟨1, ![16]⟩
abbrev S1x1x16 : Shape := ⟨3, ![1, 1, 16]⟩
abbrev S1x32x8x1x8x16 : Shape := ⟨6, ![1, 32, 8, 1, 8, 16]⟩
abbrev S1x1x1x16 : Shape := ⟨4, ![1, 1, 1, 16]⟩
abbrev S32x4x128x64x8x8 : Shape := ⟨6, ![32, 4, 128, 64, 8, 8]⟩
abbrev S32x512x64x64 : Shape := ⟨4, ![32, 512, 64, 64]⟩
abbrev S1x1x64x64 : Shape := ⟨4, ![1, 1, 64, 64]⟩
abbrev S32x1x64x64 : Shape := ⟨4, ![32, 1, 64, 64]⟩

abbrev nBuf : Table → Nat
  | .hbm => 11
  | .local .scVector .vmem => 3
  | _ => 0

abbrev bufTy : (tb : Table) → Fin (nBuf tb) → BufTy
  | .hbm, ⟨0, _⟩ => ⟨S32x512x64, .f32⟩
  | .hbm, ⟨1, _⟩ => ⟨S64x64, .i1⟩
  | .hbm, ⟨2, _⟩ => ⟨S32x4x128x8x8, .f32⟩
  | .hbm, ⟨3, _⟩ => ⟨S32x8x4x8x128, .f32⟩
  | .hbm, ⟨4, _⟩ => ⟨S_, .f32⟩
  | .hbm, ⟨5, _⟩ => ⟨S32x8x8x16, .f32⟩
  | .hbm, ⟨6, _⟩ => ⟨S32x64x8x4x8x128, .f32⟩
  | .hbm, ⟨7, _⟩ => ⟨S32x4x128x64x8x8, .f32⟩
  | .hbm, ⟨8, _⟩ => ⟨S32x512x64x64, .f32⟩
  | .hbm, ⟨9, _⟩ => ⟨S1x1x64x64, .i1⟩
  | .hbm, ⟨10, _⟩ => ⟨S32x1x64x64, .i1⟩
  | .local .scVector .vmem, ⟨0, _⟩ => ⟨S8x8x16, .f32⟩
  | .local .scVector .vmem, ⟨1, _⟩ => ⟨S32x8x8x16, .f32⟩
  | .local .scVector .vmem, ⟨2, _⟩ => ⟨S32x8x8x16, .f32⟩
  | _, _ => ⟨S32x512x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v1_scv : Ref sig .scVector := ⟨.hbm, 3, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c0_i32 : BitVec 32 := 0#32
  let c0_i32_1 : BitVec 32 := 0#32
  let c0_i32_2 : BitVec 32 := 0#32
  ![v1.toNat, 0, 0, 0, 0]
@[reducible] def k0_t1_loop : Scf.Loop 32 :=
  let c0_i32_7 : BitVec 32 := 0#32
  let c32_i32 : BitVec 32 := 32#32
  let v6 : BitVec 32 := Scalar.addi c0_i32_7 c32_i32
  let c1_i32 : BitVec 32 := 1#32
  ⟨c0_i32_7, v6, c1_i32⟩
def k0_off2 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_44 : BitVec 32 := 0#32
  let c0_i32_7 : BitVec 32 := 0#32
  let c1_i32 : BitVec 32 := 1#32
  let arg13 : BitVec 32 := Scf.iv c0_i32_7 c1_i32 k0_t1
  let c0_i32_32 : BitVec 32 := 0#32
  let v20 : BitVec 1 := Scalar.cmpi .sgt arg13 c0_i32_32
  let v21 : BitVec 32 := Scalar.extui v20
  let c0_i32_33 : BitVec 32 := 0#32
  let v22 : BitVec 1 := Scalar.cmpi .slt arg13 c0_i32_33
  let v23 : BitVec 32 := Scalar.extui v22
  let v24 : BitVec 32 := Scalar.subi v21 v23
  let c8_i32 : BitVec 32 := 8#32
  let c0_i32_34 : BitVec 32 := 0#32
  let v25 : BitVec 1 := Scalar.cmpi .sgt c8_i32 c0_i32_34
  let v26 : BitVec 32 := Scalar.extui v25
  let c0_i32_35 : BitVec 32 := 0#32
  let v27 : BitVec 1 := Scalar.cmpi .slt c8_i32 c0_i32_35
  let v28 : BitVec 32 := Scalar.extui v27
  let v29 : BitVec 32 := Scalar.subi v26 v28
  let v30 : BitVec 1 := Scalar.cmpi .ne v24 v29
  let v31 : BitVec 32 := Scalar.remsi arg13 c8_i32
  let c0_i32_36 : BitVec 32 := 0#32
  let v32 : BitVec 1 := Scalar.cmpi .ne v31 c0_i32_36
  let v33 : BitVec 1 := Scalar.andi v30 v32
  let v19 : BitVec 32 := Scalar.divsi arg13 c8_i32
  let c1_i32_37 : BitVec 32 := 1#32
  let v34 : BitVec 32 := Scalar.subi v19 c1_i32_37
  let v35 : BitVec 32 := Scalar.select v33 v34 v19
  let c0_i32_45 : BitVec 32 := 0#32
  let c8_i32_38 : BitVec 32 := 8#32
  let c0_i32_39 : BitVec 32 := 0#32
  let v36 : BitVec 1 := Scalar.cmpi .eq c8_i32_38 c0_i32_39
  let c1_i32_40 : BitVec 32 := 1#32
  let v37 : BitVec 32 := Scalar.select v36 c1_i32_40 c8_i32_38
  let v38 : BitVec 32 := Scalar.remsi arg13 v37
  let c0_i32_42 : BitVec 32 := 0#32
  let v40 : BitVec 1 := Scalar.cmpi .slt v38 c0_i32_42
  let c0_i32_43 : BitVec 32 := 0#32
  let v41 : BitVec 1 := Scalar.cmpi .slt v37 c0_i32_43
  let v42 : BitVec 1 := Scalar.xori v40 v41
  let c0_i32_41 : BitVec 32 := 0#32
  let v39 : BitVec 1 := Scalar.cmpi .ne v38 c0_i32_41
  let v43 : BitVec 1 := Scalar.andi v42 v39
  let v44 : BitVec 32 := Scalar.addi v38 v37
  let v45 : BitVec 32 := Scalar.select v43 v44 v38
  let c16_i32 : BitVec 32 := 16#32
  let v46 : BitVec 32 := Scalar.muli v45 c16_i32
  ![v1.toNat, 0, v35.toNat, 0, v46.toNat]
def k0_off3 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_250 : BitVec 32 := 0#32
  let c0_i32_7 : BitVec 32 := 0#32
  let c1_i32 : BitVec 32 := 1#32
  let arg13 : BitVec 32 := Scf.iv c0_i32_7 c1_i32 k0_t1
  let c1_i32_235 : BitVec 32 := 1#32
  let v243 : BitVec 32 := Scalar.addi arg13 c1_i32_235
  let c31_i32 : BitVec 32 := 31#32
  let v244 : BitVec 32 := Scalar.minsi v243 c31_i32
  let c0_i32_237 : BitVec 32 := 0#32
  let v246 : BitVec 1 := Scalar.cmpi .sgt v244 c0_i32_237
  let v247 : BitVec 32 := Scalar.extui v246
  let c0_i32_238 : BitVec 32 := 0#32
  let v248 : BitVec 1 := Scalar.cmpi .slt v244 c0_i32_238
  let v249 : BitVec 32 := Scalar.extui v248
  let v250 : BitVec 32 := Scalar.subi v247 v249
  let c8_i32_236 : BitVec 32 := 8#32
  let c0_i32_239 : BitVec 32 := 0#32
  let v251 : BitVec 1 := Scalar.cmpi .sgt c8_i32_236 c0_i32_239
  let v252 : BitVec 32 := Scalar.extui v251
  let c0_i32_240 : BitVec 32 := 0#32
  let v253 : BitVec 1 := Scalar.cmpi .slt c8_i32_236 c0_i32_240
  let v254 : BitVec 32 := Scalar.extui v253
  let v255 : BitVec 32 := Scalar.subi v252 v254
  let v256 : BitVec 1 := Scalar.cmpi .ne v250 v255
  let v257 : BitVec 32 := Scalar.remsi v244 c8_i32_236
  let c0_i32_241 : BitVec 32 := 0#32
  let v258 : BitVec 1 := Scalar.cmpi .ne v257 c0_i32_241
  let v259 : BitVec 1 := Scalar.andi v256 v258
  let v245 : BitVec 32 := Scalar.divsi v244 c8_i32_236
  let c1_i32_242 : BitVec 32 := 1#32
  let v260 : BitVec 32 := Scalar.subi v245 c1_i32_242
  let v261 : BitVec 32 := Scalar.select v259 v260 v245
  let c0_i32_251 : BitVec 32 := 0#32
  let c8_i32_243 : BitVec 32 := 8#32
  let c0_i32_244 : BitVec 32 := 0#32
  let v262 : BitVec 1 := Scalar.cmpi .eq c8_i32_243 c0_i32_244
  let c1_i32_245 : BitVec 32 := 1#32
  let v263 : BitVec 32 := Scalar.select v262 c1_i32_245 c8_i32_243
  let v264 : BitVec 32 := Scalar.remsi v244 v263
  let c0_i32_247 : BitVec 32 := 0#32
  let v266 : BitVec 1 := Scalar.cmpi .slt v264 c0_i32_247
  let c0_i32_248 : BitVec 32 := 0#32
  let v267 : BitVec 1 := Scalar.cmpi .slt v263 c0_i32_248
  let v268 : BitVec 1 := Scalar.xori v266 v267
  let c0_i32_246 : BitVec 32 := 0#32
  let v265 : BitVec 1 := Scalar.cmpi .ne v264 c0_i32_246
  let v269 : BitVec 1 := Scalar.andi v268 v265
  let v270 : BitVec 32 := Scalar.addi v264 v263
  let v271 : BitVec 32 := Scalar.select v269 v270 v264
  let c16_i32_249 : BitVec 32 := 16#32
  let v272 : BitVec 32 := Scalar.muli v271 c16_i32_249
  ![v1.toNat, 0, v261.toNat, 0, v272.toNat]
def k0_cond2 (k0_t1 : Fin k0_t1_loop.trips) : BitVec 1 :=
  let c0_i32_7 : BitVec 32 := 0#32
  let c1_i32 : BitVec 32 := 1#32
  let arg13 : BitVec 32 := Scf.iv c0_i32_7 c1_i32 k0_t1
  let c0_i32_256 : BitVec 32 := 0#32
  let v280 : BitVec 1 := Scalar.cmpi .sgt arg13 c0_i32_256
  let v281 : BitVec 32 := Scalar.extui v280
  let c0_i32_257 : BitVec 32 := 0#32
  let v282 : BitVec 1 := Scalar.cmpi .ne v281 c0_i32_257
  v282

def k0_off4 (i : grid0.Coords) (k0_t1 : Fin k0_t1_loop.trips) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4694 : BitVec 32 := 0#32
  let c0_i32_4695 : BitVec 32 := 0#32
  let c0_i32_7 : BitVec 32 := 0#32
  let c1_i32 : BitVec 32 := 1#32
  let arg13 : BitVec 32 := Scf.iv c0_i32_7 c1_i32 k0_t1
  let c1_i32_4679 : BitVec 32 := 1#32
  let v5807 : BitVec 32 := Scalar.subi arg13 c1_i32_4679
  let c0_i32_4681 : BitVec 32 := 0#32
  let v5809 : BitVec 1 := Scalar.cmpi .sgt v5807 c0_i32_4681
  let v5810 : BitVec 32 := Scalar.extui v5809
  let c0_i32_4682 : BitVec 32 := 0#32
  let v5811 : BitVec 1 := Scalar.cmpi .slt v5807 c0_i32_4682
  let v5812 : BitVec 32 := Scalar.extui v5811
  let v5813 : BitVec 32 := Scalar.subi v5810 v5812
  let c8_i32_4680 : BitVec 32 := 8#32
  let c0_i32_4683 : BitVec 32 := 0#32
  let v5814 : BitVec 1 := Scalar.cmpi .sgt c8_i32_4680 c0_i32_4683
  let v5815 : BitVec 32 := Scalar.extui v5814
  let c0_i32_4684 : BitVec 32 := 0#32
  let v5816 : BitVec 1 := Scalar.cmpi .slt c8_i32_4680 c0_i32_4684
  let v5817 : BitVec 32 := Scalar.extui v5816
  let v5818 : BitVec 32 := Scalar.subi v5815 v5817
  let v5819 : BitVec 1 := Scalar.cmpi .ne v5813 v5818
  let v5820 : BitVec 32 := Scalar.remsi v5807 c8_i32_4680
  let c0_i32_4685 : BitVec 32 := 0#32
  let v5821 : BitVec 1 := Scalar.cmpi .ne v5820 c0_i32_4685
  let v5822 : BitVec 1 := Scalar.andi v5819 v5821
  let v5808 : BitVec 32 := Scalar.divsi v5807 c8_i32_4680
  let c1_i32_4686 : BitVec 32 := 1#32
  let v5823 : BitVec 32 := Scalar.subi v5808 c1_i32_4686
  let v5824 : BitVec 32 := Scalar.select v5822 v5823 v5808
  let c0_i32_4696 : BitVec 32 := 0#32
  let c8_i32_4687 : BitVec 32 := 8#32
  let c0_i32_4688 : BitVec 32 := 0#32
  let v5825 : BitVec 1 := Scalar.cmpi .eq c8_i32_4687 c0_i32_4688
  let c1_i32_4689 : BitVec 32 := 1#32
  let v5826 : BitVec 32 := Scalar.select v5825 c1_i32_4689 c8_i32_4687
  let v5827 : BitVec 32 := Scalar.remsi v5807 v5826
  let c0_i32_4691 : BitVec 32 := 0#32
  let v5829 : BitVec 1 := Scalar.cmpi .slt v5827 c0_i32_4691
  let c0_i32_4692 : BitVec 32 := 0#32
  let v5830 : BitVec 1 := Scalar.cmpi .slt v5826 c0_i32_4692
  let v5831 : BitVec 1 := Scalar.xori v5829 v5830
  let c0_i32_4690 : BitVec 32 := 0#32
  let v5828 : BitVec 1 := Scalar.cmpi .ne v5827 c0_i32_4690
  let v5832 : BitVec 1 := Scalar.andi v5831 v5828
  let v5833 : BitVec 32 := Scalar.addi v5827 v5826
  let v5834 : BitVec 32 := Scalar.select v5832 v5833 v5827
  let c16_i32_4693 : BitVec 32 := 16#32
  let v5835 : BitVec 32 := Scalar.muli v5834 c16_i32_4693
  ![v1.toNat, 0, 0, v5824.toNat, 0, v5835.toNat]
def k0_off5 (i : grid0.Coords) (k0_t1 : Fin k0_t1_loop.trips) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4700 : BitVec 32 := 32#32
  let c0_i32_4701 : BitVec 32 := 0#32
  let c0_i32_7 : BitVec 32 := 0#32
  let c1_i32 : BitVec 32 := 1#32
  let arg13 : BitVec 32 := Scf.iv c0_i32_7 c1_i32 k0_t1
  let c1_i32_4679 : BitVec 32 := 1#32
  let v5807 : BitVec 32 := Scalar.subi arg13 c1_i32_4679
  let c0_i32_4681 : BitVec 32 := 0#32
  let v5809 : BitVec 1 := Scalar.cmpi .sgt v5807 c0_i32_4681
  let v5810 : BitVec 32 := Scalar.extui v5809
  let c0_i32_4682 : BitVec 32 := 0#32
  let v5811 : BitVec 1 := Scalar.cmpi .slt v5807 c0_i32_4682
  let v5812 : BitVec 32 := Scalar.extui v5811
  let v5813 : BitVec 32 := Scalar.subi v5810 v5812
  let c8_i32_4680 : BitVec 32 := 8#32
  let c0_i32_4683 : BitVec 32 := 0#32
  let v5814 : BitVec 1 := Scalar.cmpi .sgt c8_i32_4680 c0_i32_4683
  let v5815 : BitVec 32 := Scalar.extui v5814
  let c0_i32_4684 : BitVec 32 := 0#32
  let v5816 : BitVec 1 := Scalar.cmpi .slt c8_i32_4680 c0_i32_4684
  let v5817 : BitVec 32 := Scalar.extui v5816
  let v5818 : BitVec 32 := Scalar.subi v5815 v5817
  let v5819 : BitVec 1 := Scalar.cmpi .ne v5813 v5818
  let v5820 : BitVec 32 := Scalar.remsi v5807 c8_i32_4680
  let c0_i32_4685 : BitVec 32 := 0#32
  let v5821 : BitVec 1 := Scalar.cmpi .ne v5820 c0_i32_4685
  let v5822 : BitVec 1 := Scalar.andi v5819 v5821
  let v5808 : BitVec 32 := Scalar.divsi v5807 c8_i32_4680
  let c1_i32_4686 : BitVec 32 := 1#32
  let v5823 : BitVec 32 := Scalar.subi v5808 c1_i32_4686
  let v5824 : BitVec 32 := Scalar.select v5822 v5823 v5808
  let c0_i32_4702 : BitVec 32 := 0#32
  let c8_i32_4687 : BitVec 32 := 8#32
  let c0_i32_4688 : BitVec 32 := 0#32
  let v5825 : BitVec 1 := Scalar.cmpi .eq c8_i32_4687 c0_i32_4688
  let c1_i32_4689 : BitVec 32 := 1#32
  let v5826 : BitVec 32 := Scalar.select v5825 c1_i32_4689 c8_i32_4687
  let v5827 : BitVec 32 := Scalar.remsi v5807 v5826
  let c0_i32_4691 : BitVec 32 := 0#32
  let v5829 : BitVec 1 := Scalar.cmpi .slt v5827 c0_i32_4691
  let c0_i32_4692 : BitVec 32 := 0#32
  let v5830 : BitVec 1 := Scalar.cmpi .slt v5826 c0_i32_4692
  let v5831 : BitVec 1 := Scalar.xori v5829 v5830
  let c0_i32_4690 : BitVec 32 := 0#32
  let v5828 : BitVec 1 := Scalar.cmpi .ne v5827 c0_i32_4690
  let v5832 : BitVec 1 := Scalar.andi v5831 v5828
  let v5833 : BitVec 32 := Scalar.addi v5827 v5826
  let v5834 : BitVec 32 := Scalar.select v5832 v5833 v5827
  let c16_i32_4693 : BitVec 32 := 16#32
  let v5835 : BitVec 32 := Scalar.muli v5834 c16_i32_4693
  ![v1.toNat, 32, 0, v5824.toNat, 0, v5835.toNat]
def k0_off6 (i : grid0.Coords) (k0_t1 : Fin k0_t1_loop.trips) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4667 : BitVec 32 := 0#32
  let c0_i32_4668 : BitVec 32 := 0#32
  let c0_i32_7 : BitVec 32 := 0#32
  let c1_i32 : BitVec 32 := 1#32
  let arg13 : BitVec 32 := Scf.iv c0_i32_7 c1_i32 k0_t1
  let c0_i32_4654 : BitVec 32 := 0#32
  let v5772 : BitVec 1 := Scalar.cmpi .sgt arg13 c0_i32_4654
  let v5773 : BitVec 32 := Scalar.extui v5772
  let c0_i32_4655 : BitVec 32 := 0#32
  let v5774 : BitVec 1 := Scalar.cmpi .slt arg13 c0_i32_4655
  let v5775 : BitVec 32 := Scalar.extui v5774
  let v5776 : BitVec 32 := Scalar.subi v5773 v5775
  let c8_i32_4653 : BitVec 32 := 8#32
  let c0_i32_4656 : BitVec 32 := 0#32
  let v5777 : BitVec 1 := Scalar.cmpi .sgt c8_i32_4653 c0_i32_4656
  let v5778 : BitVec 32 := Scalar.extui v5777
  let c0_i32_4657 : BitVec 32 := 0#32
  let v5779 : BitVec 1 := Scalar.cmpi .slt c8_i32_4653 c0_i32_4657
  let v5780 : BitVec 32 := Scalar.extui v5779
  let v5781 : BitVec 32 := Scalar.subi v5778 v5780
  let v5782 : BitVec 1 := Scalar.cmpi .ne v5776 v5781
  let v5783 : BitVec 32 := Scalar.remsi arg13 c8_i32_4653
  let c0_i32_4658 : BitVec 32 := 0#32
  let v5784 : BitVec 1 := Scalar.cmpi .ne v5783 c0_i32_4658
  let v5785 : BitVec 1 := Scalar.andi v5782 v5784
  let v5771 : BitVec 32 := Scalar.divsi arg13 c8_i32_4653
  let c1_i32_4659 : BitVec 32 := 1#32
  let v5786 : BitVec 32 := Scalar.subi v5771 c1_i32_4659
  let v5787 : BitVec 32 := Scalar.select v5785 v5786 v5771
  let c0_i32_4669 : BitVec 32 := 0#32
  let c8_i32_4660 : BitVec 32 := 8#32
  let c0_i32_4661 : BitVec 32 := 0#32
  let v5788 : BitVec 1 := Scalar.cmpi .eq c8_i32_4660 c0_i32_4661
  let c1_i32_4662 : BitVec 32 := 1#32
  let v5789 : BitVec 32 := Scalar.select v5788 c1_i32_4662 c8_i32_4660
  let v5790 : BitVec 32 := Scalar.remsi arg13 v5789
  let c0_i32_4664 : BitVec 32 := 0#32
  let v5792 : BitVec 1 := Scalar.cmpi .slt v5790 c0_i32_4664
  let c0_i32_4665 : BitVec 32 := 0#32
  let v5793 : BitVec 1 := Scalar.cmpi .slt v5789 c0_i32_4665
  let v5794 : BitVec 1 := Scalar.xori v5792 v5793
  let c0_i32_4663 : BitVec 32 := 0#32
  let v5791 : BitVec 1 := Scalar.cmpi .ne v5790 c0_i32_4663
  let v5795 : BitVec 1 := Scalar.andi v5794 v5791
  let v5796 : BitVec 32 := Scalar.addi v5790 v5789
  let v5797 : BitVec 32 := Scalar.select v5795 v5796 v5790
  let c16_i32_4666 : BitVec 32 := 16#32
  let v5798 : BitVec 32 := Scalar.muli v5797 c16_i32_4666
  ![v1.toNat, 0, 0, v5787.toNat, 0, v5798.toNat]
def k0_off7 (i : grid0.Coords) (k0_t1 : Fin k0_t1_loop.trips) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_4673 : BitVec 32 := 32#32
  let c0_i32_4674 : BitVec 32 := 0#32
  let c0_i32_7 : BitVec 32 := 0#32
  let c1_i32 : BitVec 32 := 1#32
  let arg13 : BitVec 32 := Scf.iv c0_i32_7 c1_i32 k0_t1
  let c0_i32_4654 : BitVec 32 := 0#32
  let v5772 : BitVec 1 := Scalar.cmpi .sgt arg13 c0_i32_4654
  let v5773 : BitVec 32 := Scalar.extui v5772
  let c0_i32_4655 : BitVec 32 := 0#32
  let v5774 : BitVec 1 := Scalar.cmpi .slt arg13 c0_i32_4655
  let v5775 : BitVec 32 := Scalar.extui v5774
  let v5776 : BitVec 32 := Scalar.subi v5773 v5775
  let c8_i32_4653 : BitVec 32 := 8#32
  let c0_i32_4656 : BitVec 32 := 0#32
  let v5777 : BitVec 1 := Scalar.cmpi .sgt c8_i32_4653 c0_i32_4656
  let v5778 : BitVec 32 := Scalar.extui v5777
  let c0_i32_4657 : BitVec 32 := 0#32
  let v5779 : BitVec 1 := Scalar.cmpi .slt c8_i32_4653 c0_i32_4657
  let v5780 : BitVec 32 := Scalar.extui v5779
  let v5781 : BitVec 32 := Scalar.subi v5778 v5780
  let v5782 : BitVec 1 := Scalar.cmpi .ne v5776 v5781
  let v5783 : BitVec 32 := Scalar.remsi arg13 c8_i32_4653
  let c0_i32_4658 : BitVec 32 := 0#32
  let v5784 : BitVec 1 := Scalar.cmpi .ne v5783 c0_i32_4658
  let v5785 : BitVec 1 := Scalar.andi v5782 v5784
  let v5771 : BitVec 32 := Scalar.divsi arg13 c8_i32_4653
  let c1_i32_4659 : BitVec 32 := 1#32
  let v5786 : BitVec 32 := Scalar.subi v5771 c1_i32_4659
  let v5787 : BitVec 32 := Scalar.select v5785 v5786 v5771
  let c0_i32_4675 : BitVec 32 := 0#32
  let c8_i32_4660 : BitVec 32 := 8#32
  let c0_i32_4661 : BitVec 32 := 0#32
  let v5788 : BitVec 1 := Scalar.cmpi .eq c8_i32_4660 c0_i32_4661
  let c1_i32_4662 : BitVec 32 := 1#32
  let v5789 : BitVec 32 := Scalar.select v5788 c1_i32_4662 c8_i32_4660
  let v5790 : BitVec 32 := Scalar.remsi arg13 v5789
  let c0_i32_4664 : BitVec 32 := 0#32
  let v5792 : BitVec 1 := Scalar.cmpi .slt v5790 c0_i32_4664
  let c0_i32_4665 : BitVec 32 := 0#32
  let v5793 : BitVec 1 := Scalar.cmpi .slt v5789 c0_i32_4665
  let v5794 : BitVec 1 := Scalar.xori v5792 v5793
  let c0_i32_4663 : BitVec 32 := 0#32
  let v5791 : BitVec 1 := Scalar.cmpi .ne v5790 c0_i32_4663
  let v5795 : BitVec 1 := Scalar.andi v5794 v5791
  let v5796 : BitVec 32 := Scalar.addi v5790 v5789
  let v5797 : BitVec 32 := Scalar.select v5795 v5796 v5790
  let c16_i32_4666 : BitVec 32 := 16#32
  let v5798 : BitVec 32 := Scalar.muli v5797 c16_i32_4666
  ![v1.toNat, 32, 0, v5787.toNat, 0, v5798.toNat]
def k0_off8 (i : grid0.Coords) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c0_i32_10 : BitVec 32 := 0#32
  let c3_i32 : BitVec 32 := 3#32
  let c0_i32_11 : BitVec 32 := 0#32
  let c112_i32 : BitVec 32 := 112#32
  ![v1.toNat, 0, 0, 3, 0, 112]
def k0_off9 (i : grid0.Coords) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_17 : BitVec 32 := 32#32
  let c0_i32_18 : BitVec 32 := 0#32
  let c3_i32_16 : BitVec 32 := 3#32
  let c0_i32_19 : BitVec 32 := 0#32
  let c112_i32_20 : BitVec 32 := 112#32
  ![v1.toNat, 32, 0, 3, 0, 112]
def k0_off10 (i : grid0.Coords) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_26 : BitVec 32 := 0#32
  let c3_i32_25 : BitVec 32 := 3#32
  let c0_i32_27 : BitVec 32 := 0#32
  let c112_i32_28 : BitVec 32 := 112#32
  ![v1.toNat, 0, 3, 0, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x512x64 : Shape := ⟨3, ![32, 512, 64]⟩
abbrev S63 : Shape := ⟨1, ![63]⟩
abbrev S62 : Shape := ⟨1, ![62]⟩
abbrev S61 : Shape := ⟨1, ![61]⟩
abbrev S60 : Shape := ⟨1, ![60]⟩
abbrev S59 : Shape := ⟨1, ![59]⟩
abbrev S58 : Shape := ⟨1, ![58]⟩
abbrev S57 : Shape := ⟨1, ![57]⟩
abbrev S56 : Shape := ⟨1, ![56]⟩
abbrev S55 : Shape := ⟨1, ![55]⟩
abbrev S54 : Shape := ⟨1, ![54]⟩
abbrev S53 : Shape := ⟨1, ![53]⟩
abbrev S52 : Shape := ⟨1, ![52]⟩
abbrev S51 : Shape := ⟨1, ![51]⟩
abbrev S50 : Shape := ⟨1, ![50]⟩
abbrev S49 : Shape := ⟨1, ![49]⟩
abbrev S24 : Shape := ⟨1, ![24]⟩
abbrev S23 : Shape := ⟨1, ![23]⟩
abbrev S22 : Shape := ⟨1, ![22]⟩
abbrev S21 : Shape := ⟨1, ![21]⟩
abbrev S20 : Shape := ⟨1, ![20]⟩
abbrev S19 : Shape := ⟨1, ![19]⟩
abbrev S18 : Shape := ⟨1, ![18]⟩
abbrev S17 : Shape := ⟨1, ![17]⟩
abbrev S8 : Shape := ⟨1, ![8]⟩
abbrev S7 : Shape := ⟨1, ![7]⟩
abbrev S6 : Shape := ⟨1, ![6]⟩
abbrev S5 : Shape := ⟨1, ![5]⟩
abbrev S4 : Shape := ⟨1, ![4]⟩
abbrev S3 : Shape := ⟨1, ![3]⟩
abbrev S2 : Shape := ⟨1, ![2]⟩
abbrev S1 : Shape := ⟨1, ![1]⟩
abbrev S64x64 : Shape := ⟨2, ![64, 64]⟩
abbrev S_ : Shape := ⟨0, ![]⟩
abbrev S32x512x64x64 : Shape := ⟨4, ![32, 512, 64, 64]⟩
abbrev S64 : Shape := ⟨1, ![64]⟩
abbrev S64x1 : Shape := ⟨2, ![64, 1]⟩
abbrev S64x2 : Shape := ⟨2, ![64, 2]⟩
abbrev S32x512x63 : Shape := ⟨3, ![32, 512, 63]⟩
abbrev S63x1 : Shape := ⟨2, ![63, 1]⟩
abbrev S63x2 : Shape := ⟨2, ![63, 2]⟩
abbrev S32x512x62 : Shape := ⟨3, ![32, 512, 62]⟩
abbrev S62x1 : Shape := ⟨2, ![62, 1]⟩
abbrev S62x2 : Shape := ⟨2, ![62, 2]⟩
abbrev S32x512x61 : Shape := ⟨3, ![32, 512, 61]⟩
abbrev S61x1 : Shape := ⟨2, ![61, 1]⟩
abbrev S61x2 : Shape := ⟨2, ![61, 2]⟩
abbrev S32x512x60 : Shape := ⟨3, ![32, 512, 60]⟩
abbrev S60x1 : Shape := ⟨2, ![60, 1]⟩
abbrev S60x2 : Shape := ⟨2, ![60, 2]⟩
abbrev S32x512x59 : Shape := ⟨3, ![32, 512, 59]⟩
abbrev S59x1 : Shape := ⟨2, ![59, 1]⟩
abbrev S59x2 : Shape := ⟨2, ![59, 2]⟩
abbrev S32x512x58 : Shape := ⟨3, ![32, 512, 58]⟩
abbrev S58x1 : Shape := ⟨2, ![58, 1]⟩
abbrev S58x2 : Shape := ⟨2, ![58, 2]⟩
abbrev S32x512x57 : Shape := ⟨3, ![32, 512, 57]⟩
abbrev S57x1 : Shape := ⟨2, ![57, 1]⟩
abbrev S57x2 : Shape := ⟨2, ![57, 2]⟩
abbrev S32x512x56 : Shape := ⟨3, ![32, 512, 56]⟩
abbrev S56x1 : Shape := ⟨2, ![56, 1]⟩
abbrev S56x2 : Shape := ⟨2, ![56, 2]⟩
abbrev S32x512x55 : Shape := ⟨3, ![32, 512, 55]⟩
abbrev S55x1 : Shape := ⟨2, ![55, 1]⟩
abbrev S55x2 : Shape := ⟨2, ![55, 2]⟩
abbrev S32x512x54 : Shape := ⟨3, ![32, 512, 54]⟩
abbrev S54x1 : Shape := ⟨2, ![54, 1]⟩
abbrev S54x2 : Shape := ⟨2, ![54, 2]⟩
abbrev S32x512x53 : Shape := ⟨3, ![32, 512, 53]⟩
abbrev S53x1 : Shape := ⟨2, ![53, 1]⟩
abbrev S53x2 : Shape := ⟨2, ![53, 2]⟩
abbrev S32x512x52 : Shape := ⟨3, ![32, 512, 52]⟩
abbrev S52x1 : Shape := ⟨2, ![52, 1]⟩
abbrev S52x2 : Shape := ⟨2, ![52, 2]⟩
abbrev S32x512x51 : Shape := ⟨3, ![32, 512, 51]⟩
abbrev S51x1 : Shape := ⟨2, ![51, 1]⟩
abbrev S51x2 : Shape := ⟨2, ![51, 2]⟩
abbrev S32x512x50 : Shape := ⟨3, ![32, 512, 50]⟩
abbrev S50x1 : Shape := ⟨2, ![50, 1]⟩
abbrev S50x2 : Shape := ⟨2, ![50, 2]⟩
abbrev S32x512x49 : Shape := ⟨3, ![32, 512, 49]⟩
abbrev S49x1 : Shape := ⟨2, ![49, 1]⟩
abbrev S49x2 : Shape := ⟨2, ![49, 2]⟩
abbrev S32x512x24 : Shape := ⟨3, ![32, 512, 24]⟩
abbrev S24x1 : Shape := ⟨2, ![24, 1]⟩
abbrev S24x2 : Shape := ⟨2, ![24, 2]⟩
abbrev S32x512x23 : Shape := ⟨3, ![32, 512, 23]⟩
abbrev S23x1 : Shape := ⟨2, ![23, 1]⟩
abbrev S23x2 : Shape := ⟨2, ![23, 2]⟩
abbrev S32x512x22 : Shape := ⟨3, ![32, 512, 22]⟩
abbrev S22x1 : Shape := ⟨2, ![22, 1]⟩
abbrev S22x2 : Shape := ⟨2, ![22, 2]⟩
abbrev S32x512x21 : Shape := ⟨3, ![32, 512, 21]⟩
abbrev S21x1 : Shape := ⟨2, ![21, 1]⟩
abbrev S21x2 : Shape := ⟨2, ![21, 2]⟩
abbrev S32x512x20 : Shape := ⟨3, ![32, 512, 20]⟩
abbrev S20x1 : Shape := ⟨2, ![20, 1]⟩
abbrev S20x2 : Shape := ⟨2, ![20, 2]⟩
abbrev S32x512x19 : Shape := ⟨3, ![32, 512, 19]⟩
abbrev S19x1 : Shape := ⟨2, ![19, 1]⟩
abbrev S19x2 : Shape := ⟨2, ![19, 2]⟩
abbrev S32x512x18 : Shape := ⟨3, ![32, 512, 18]⟩
abbrev S18x1 : Shape := ⟨2, ![18, 1]⟩
abbrev S18x2 : Shape := ⟨2, ![18, 2]⟩
abbrev S32x512x17 : Shape := ⟨3, ![32, 512, 17]⟩
abbrev S17x1 : Shape := ⟨2, ![17, 1]⟩
abbrev S17x2 : Shape := ⟨2, ![17, 2]⟩
abbrev S32x512x8 : Shape := ⟨3, ![32, 512, 8]⟩
abbrev S8x1 : Shape := ⟨2, ![8, 1]⟩
abbrev S8x2 : Shape := ⟨2, ![8, 2]⟩
abbrev S32x512x7 : Shape := ⟨3, ![32, 512, 7]⟩
abbrev S7x1 : Shape := ⟨2, ![7, 1]⟩
abbrev S7x2 : Shape := ⟨2, ![7, 2]⟩
abbrev S32x512x6 : Shape := ⟨3, ![32, 512, 6]⟩
abbrev S6x1 : Shape := ⟨2, ![6, 1]⟩
abbrev S6x2 : Shape := ⟨2, ![6, 2]⟩
abbrev S32x512x5 : Shape := ⟨3, ![32, 512, 5]⟩
abbrev S5x1 : Shape := ⟨2, ![5, 1]⟩
abbrev S5x2 : Shape := ⟨2, ![5, 2]⟩
abbrev S32x512x4 : Shape := ⟨3, ![32, 512, 4]⟩
abbrev S4x1 : Shape := ⟨2, ![4, 1]⟩
abbrev S4x2 : Shape := ⟨2, ![4, 2]⟩
abbrev S32x512x3 : Shape := ⟨3, ![32, 512, 3]⟩
abbrev S3x1 : Shape := ⟨2, ![3, 1]⟩
abbrev S3x2 : Shape := ⟨2, ![3, 2]⟩
abbrev S32x512x2 : Shape := ⟨3, ![32, 512, 2]⟩
abbrev S2x1 : Shape := ⟨2, ![2, 1]⟩
abbrev S2x2 : Shape := ⟨2, ![2, 2]⟩
abbrev S32x512x1 : Shape := ⟨3, ![32, 512, 1]⟩
abbrev S1x1 : Shape := ⟨2, ![1, 1]⟩
abbrev S1x2 : Shape := ⟨2, ![1, 2]⟩
abbrev S1x1x64x64 : Shape := ⟨4, ![1, 1, 64, 64]⟩
abbrev S32x1x64x64 : Shape := ⟨4, ![32, 1, 64, 64]⟩

abbrev nBuf : Space → Nat
  | .hbm => 738
  | .vmem => 0
  | .smem => 0
  | _ => 0

abbrev hbmTy0_0 (i : Nat) : BufTy := match i % 128 with
  | 0 => ⟨S32x512x64, .f32⟩
  | 1 => ⟨S63, .i32⟩
  | 2 => ⟨S63, .i32⟩
  | 3 => ⟨S62, .i32⟩
  | 4 => ⟨S62, .i32⟩
  | 5 => ⟨S61, .i32⟩
  | 6 => ⟨S61, .i32⟩
  | 7 => ⟨S60, .i32⟩
  | 8 => ⟨S60, .i32⟩
  | 9 => ⟨S59, .i32⟩
  | 10 => ⟨S59, .i32⟩
  | 11 => ⟨S58, .i32⟩
  | 12 => ⟨S58, .i32⟩
  | 13 => ⟨S57, .i32⟩
  | 14 => ⟨S57, .i32⟩
  | 15 => ⟨S56, .i32⟩
  | 16 => ⟨S56, .i32⟩
  | 17 => ⟨S55, .i32⟩
  | 18 => ⟨S55, .i32⟩
  | 19 => ⟨S54, .i32⟩
  | 20 => ⟨S54, .i32⟩
  | 21 => ⟨S53, .i32⟩
  | 22 => ⟨S53, .i32⟩
  | 23 => ⟨S52, .i32⟩
  | 24 => ⟨S52, .i32⟩
  | 25 => ⟨S51, .i32⟩
  | 26 => ⟨S51, .i32⟩
  | 27 => ⟨S50, .i32⟩
  | 28 => ⟨S50, .i32⟩
  | 29 => ⟨S49, .i32⟩
  | 30 => ⟨S49, .i32⟩
  | 31 => ⟨S24, .i32⟩
  | 32 => ⟨S24, .i32⟩
  | 33 => ⟨S23, .i32⟩
  | 34 => ⟨S23, .i32⟩
  | 35 => ⟨S22, .i32⟩
  | 36 => ⟨S22, .i32⟩
  | 37 => ⟨S21, .i32⟩
  | 38 => ⟨S21, .i32⟩
  | 39 => ⟨S20, .i32⟩
  | 40 => ⟨S20, .i32⟩
  | 41 => ⟨S19, .i32⟩
  | 42 => ⟨S19, .i32⟩
  | 43 => ⟨S18, .i32⟩
  | 44 => ⟨S18, .i32⟩
  | 45 => ⟨S17, .i32⟩
  | 46 => ⟨S17, .i32⟩
  | 47 => ⟨S8, .i32⟩
  | 48 => ⟨S8, .i32⟩
  | 49 => ⟨S7, .i32⟩
  | 50 => ⟨S7, .i32⟩
  | 51 => ⟨S6, .i32⟩
  | 52 => ⟨S6, .i32⟩
  | 53 => ⟨S5, .i32⟩
  | 54 => ⟨S5, .i32⟩
  | 55 => ⟨S4, .i32⟩
  | 56 => ⟨S4, .i32⟩
  | 57 => ⟨S3, .i32⟩
  | 58 => ⟨S3, .i32⟩
  | 59 => ⟨S2, .i32⟩
  | 60 => ⟨S2, .i32⟩
  | 61 => ⟨S1, .i32⟩
  | 62 => ⟨S1, .i32⟩
  | 63 => ⟨S64x64, .i1⟩
  | 64 => ⟨S_, .f32⟩
  | 65 => ⟨S32x512x64x64, .f32⟩
  | 66 => ⟨S64, .i32⟩
  | 67 => ⟨S_, .i32⟩
  | 68 => ⟨S64, .i32⟩
  | 69 => ⟨S64, .i1⟩
  | 70 => ⟨S_, .i32⟩
  | 71 => ⟨S64, .i32⟩
  | 72 => ⟨S64, .i32⟩
  | 73 => ⟨S64, .i32⟩
  | 74 => ⟨S_, .i32⟩
  | 75 => ⟨S64, .i32⟩
  | 76 => ⟨S64, .i1⟩
  | 77 => ⟨S_, .i32⟩
  | 78 => ⟨S64, .i32⟩
  | 79 => ⟨S64, .i32⟩
  | 80 => ⟨S64, .i32⟩
  | 81 => ⟨S64x1, .i32⟩
  | 82 => ⟨S64x1, .i32⟩
  | 83 => ⟨S64x2, .i32⟩
  | 84 => ⟨S32x512x64x64, .f32⟩
  | 85 => ⟨S_, .f32⟩
  | 86 => ⟨S_, .f32⟩
  | 87 => ⟨S32x512x63, .f32⟩
  | 88 => ⟨S_, .i32⟩
  | 89 => ⟨S63, .i32⟩
  | 90 => ⟨S63, .i1⟩
  | 91 => ⟨S_, .i32⟩
  | 92 => ⟨S63, .i32⟩
  | 93 => ⟨S63, .i32⟩
  | 94 => ⟨S63, .i32⟩
  | 95 => ⟨S_, .i32⟩
  | 96 => ⟨S63, .i32⟩
  | 97 => ⟨S63, .i1⟩
  | 98 => ⟨S_, .i32⟩
  | 99 => ⟨S63, .i32⟩
  | 100 => ⟨S63, .i32⟩
  | 101 => ⟨S63, .i32⟩
  | 102 => ⟨S63x1, .i32⟩
  | 103 => ⟨S63x1, .i32⟩
  | 104 => ⟨S63x2, .i32⟩
  | 105 => ⟨S32x512x64x64, .f32⟩
  | 106 => ⟨S_, .f32⟩
  | 107 => ⟨S_, .f32⟩
  | 108 => ⟨S32x512x62, .f32⟩
  | 109 => ⟨S_, .i32⟩
  | 110 => ⟨S62, .i32⟩
  | 111 => ⟨S62, .i1⟩
  | 112 => ⟨S_, .i32⟩
  | 113 => ⟨S62, .i32⟩
  | 114 => ⟨S62, .i32⟩
  | 115 => ⟨S62, .i32⟩
  | 116 => ⟨S_, .i32⟩
  | 117 => ⟨S62, .i32⟩
  | 118 => ⟨S62, .i1⟩
  | 119 => ⟨S_, .i32⟩
  | 120 => ⟨S62, .i32⟩
  | 121 => ⟨S62, .i32⟩
  | 122 => ⟨S62, .i32⟩
  | 123 => ⟨S62x1, .i32⟩
  | 124 => ⟨S62x1, .i32⟩
  | 125 => ⟨S62x2, .i32⟩
  | 126 => ⟨S32x512x64x64, .f32⟩
  | 127 => ⟨S_, .f32⟩
  | _ => ⟨S32x512x64, .f32⟩

abbrev hbmTy0_1 (i : Nat) : BufTy := match i % 128 with
  | 0 => ⟨S_, .f32⟩
  | 1 => ⟨S32x512x61, .f32⟩
  | 2 => ⟨S_, .i32⟩
  | 3 => ⟨S61, .i32⟩
  | 4 => ⟨S61, .i1⟩
  | 5 => ⟨S_, .i32⟩
  | 6 => ⟨S61, .i32⟩
  | 7 => ⟨S61, .i32⟩
  | 8 => ⟨S61, .i32⟩
  | 9 => ⟨S_, .i32⟩
  | 10 => ⟨S61, .i32⟩
  | 11 => ⟨S61, .i1⟩
  | 12 => ⟨S_, .i32⟩
  | 13 => ⟨S61, .i32⟩
  | 14 => ⟨S61, .i32⟩
  | 15 => ⟨S61, .i32⟩
  | 16 => ⟨S61x1, .i32⟩
  | 17 => ⟨S61x1, .i32⟩
  | 18 => ⟨S61x2, .i32⟩
  | 19 => ⟨S32x512x64x64, .f32⟩
  | 20 => ⟨S_, .f32⟩
  | 21 => ⟨S_, .f32⟩
  | 22 => ⟨S32x512x60, .f32⟩
  | 23 => ⟨S_, .i32⟩
  | 24 => ⟨S60, .i32⟩
  | 25 => ⟨S60, .i1⟩
  | 26 => ⟨S_, .i32⟩
  | 27 => ⟨S60, .i32⟩
  | 28 => ⟨S60, .i32⟩
  | 29 => ⟨S60, .i32⟩
  | 30 => ⟨S_, .i32⟩
  | 31 => ⟨S60, .i32⟩
  | 32 => ⟨S60, .i1⟩
  | 33 => ⟨S_, .i32⟩
  | 34 => ⟨S60, .i32⟩
  | 35 => ⟨S60, .i32⟩
  | 36 => ⟨S60, .i32⟩
  | 37 => ⟨S60x1, .i32⟩
  | 38 => ⟨S60x1, .i32⟩
  | 39 => ⟨S60x2, .i32⟩
  | 40 => ⟨S32x512x64x64, .f32⟩
  | 41 => ⟨S_, .f32⟩
  | 42 => ⟨S_, .f32⟩
  | 43 => ⟨S32x512x59, .f32⟩
  | 44 => ⟨S_, .i32⟩
  | 45 => ⟨S59, .i32⟩
  | 46 => ⟨S59, .i1⟩
  | 47 => ⟨S_, .i32⟩
  | 48 => ⟨S59, .i32⟩
  | 49 => ⟨S59, .i32⟩
  | 50 => ⟨S59, .i32⟩
  | 51 => ⟨S_, .i32⟩
  | 52 => ⟨S59, .i32⟩
  | 53 => ⟨S59, .i1⟩
  | 54 => ⟨S_, .i32⟩
  | 55 => ⟨S59, .i32⟩
  | 56 => ⟨S59, .i32⟩
  | 57 => ⟨S59, .i32⟩
  | 58 => ⟨S59x1, .i32⟩
  | 59 => ⟨S59x1, .i32⟩
  | 60 => ⟨S59x2, .i32⟩
  | 61 => ⟨S32x512x64x64, .f32⟩
  | 62 => ⟨S_, .f32⟩
  | 63 => ⟨S_, .f32⟩
  | 64 => ⟨S32x512x58, .f32⟩
  | 65 => ⟨S_, .i32⟩
  | 66 => ⟨S58, .i32⟩
  | 67 => ⟨S58, .i1⟩
  | 68 => ⟨S_, .i32⟩
  | 69 => ⟨S58, .i32⟩
  | 70 => ⟨S58, .i32⟩
  | 71 => ⟨S58, .i32⟩
  | 72 => ⟨S_, .i32⟩
  | 73 => ⟨S58, .i32⟩
  | 74 => ⟨S58, .i1⟩
  | 75 => ⟨S_, .i32⟩
  | 76 => ⟨S58, .i32⟩
  | 77 => ⟨S58, .i32⟩
  | 78 => ⟨S58, .i32⟩
  | 79 => ⟨S58x1, .i32⟩
  | 80 => ⟨S58x1, .i32⟩
  | 81 => ⟨S58x2, .i32⟩
  | 82 => ⟨S32x512x64x64, .f32⟩
  | 83 => ⟨S_, .f32⟩
  | 84 => ⟨S_, .f32⟩
  | 85 => ⟨S32x512x57, .f32⟩
  | 86 => ⟨S_, .i32⟩
  | 87 => ⟨S57, .i32⟩
  | 88 => ⟨S57, .i1⟩
  | 89 => ⟨S_, .i32⟩
  | 90 => ⟨S57, .i32⟩
  | 91 => ⟨S57, .i32⟩
  | 92 => ⟨S57, .i32⟩
  | 93 => ⟨S_, .i32⟩
  | 94 => ⟨S57, .i32⟩
  | 95 => ⟨S57, .i1⟩
  | 96 => ⟨S_, .i32⟩
  | 97 => ⟨S57, .i32⟩
  | 98 => ⟨S57, .i32⟩
  | 99 => ⟨S57, .i32⟩
  | 100 => ⟨S57x1, .i32⟩
  | 101 => ⟨S57x1, .i32⟩
  | 102 => ⟨S57x2, .i32⟩
  | 103 => ⟨S32x512x64x64, .f32⟩
  | 104 => ⟨S_, .f32⟩
  | 105 => ⟨S_, .f32⟩
  | 106 => ⟨S32x512x56, .f32⟩
  | 107 => ⟨S_, .i32⟩
  | 108 => ⟨S56, .i32⟩
  | 109 => ⟨S56, .i1⟩
  | 110 => ⟨S_, .i32⟩
  | 111 => ⟨S56, .i32⟩
  | 112 => ⟨S56, .i32⟩
  | 113 => ⟨S56, .i32⟩
  | 114 => ⟨S_, .i32⟩
  | 115 => ⟨S56, .i32⟩
  | 116 => ⟨S56, .i1⟩
  | 117 => ⟨S_, .i32⟩
  | 118 => ⟨S56, .i32⟩
  | 119 => ⟨S56, .i32⟩
  | 120 => ⟨S56, .i32⟩
  | 121 => ⟨S56x1, .i32⟩
  | 122 => ⟨S56x1, .i32⟩
  | 123 => ⟨S56x2, .i32⟩
  | 124 => ⟨S32x512x64x64, .f32⟩
  | 125 => ⟨S_, .f32⟩
  | 126 => ⟨S_, .f32⟩
  | 127 => ⟨S32x512x55, .f32⟩
  | _ => ⟨S32x512x64, .f32⟩

abbrev hbmTy0_2 (i : Nat) : BufTy := match i % 128 with
  | 0 => ⟨S_, .i32⟩
  | 1 => ⟨S55, .i32⟩
  | 2 => ⟨S55, .i1⟩
  | 3 => ⟨S_, .i32⟩
  | 4 => ⟨S55, .i32⟩
  | 5 => ⟨S55, .i32⟩
  | 6 => ⟨S55, .i32⟩
  | 7 => ⟨S_, .i32⟩
  | 8 => ⟨S55, .i32⟩
  | 9 => ⟨S55, .i1⟩
  | 10 => ⟨S_, .i32⟩
  | 11 => ⟨S55, .i32⟩
  | 12 => ⟨S55, .i32⟩
  | 13 => ⟨S55, .i32⟩
  | 14 => ⟨S55x1, .i32⟩
  | 15 => ⟨S55x1, .i32⟩
  | 16 => ⟨S55x2, .i32⟩
  | 17 => ⟨S32x512x64x64, .f32⟩
  | 18 => ⟨S_, .f32⟩
  | 19 => ⟨S_, .f32⟩
  | 20 => ⟨S32x512x54, .f32⟩
  | 21 => ⟨S_, .i32⟩
  | 22 => ⟨S54, .i32⟩
  | 23 => ⟨S54, .i1⟩
  | 24 => ⟨S_, .i32⟩
  | 25 => ⟨S54, .i32⟩
  | 26 => ⟨S54, .i32⟩
  | 27 => ⟨S54, .i32⟩
  | 28 => ⟨S_, .i32⟩
  | 29 => ⟨S54, .i32⟩
  | 30 => ⟨S54, .i1⟩
  | 31 => ⟨S_, .i32⟩
  | 32 => ⟨S54, .i32⟩
  | 33 => ⟨S54, .i32⟩
  | 34 => ⟨S54, .i32⟩
  | 35 => ⟨S54x1, .i32⟩
  | 36 => ⟨S54x1, .i32⟩
  | 37 => ⟨S54x2, .i32⟩
  | 38 => ⟨S32x512x64x64, .f32⟩
  | 39 => ⟨S_, .f32⟩
  | 40 => ⟨S_, .f32⟩
  | 41 => ⟨S32x512x53, .f32⟩
  | 42 => ⟨S_, .i32⟩
  | 43 => ⟨S53, .i32⟩
  | 44 => ⟨S53, .i1⟩
  | 45 => ⟨S_, .i32⟩
  | 46 => ⟨S53, .i32⟩
  | 47 => ⟨S53, .i32⟩
  | 48 => ⟨S53, .i32⟩
  | 49 => ⟨S_, .i32⟩
  | 50 => ⟨S53, .i32⟩
  | 51 => ⟨S53, .i1⟩
  | 52 => ⟨S_, .i32⟩
  | 53 => ⟨S53, .i32⟩
  | 54 => ⟨S53, .i32⟩
  | 55 => ⟨S53, .i32⟩
  | 56 => ⟨S53x1, .i32⟩
  | 57 => ⟨S53x1, .i32⟩
  | 58 => ⟨S53x2, .i32⟩
  | 59 => ⟨S32x512x64x64, .f32⟩
  | 60 => ⟨S_, .f32⟩
  | 61 => ⟨S_, .f32⟩
  | 62 => ⟨S32x512x52, .f32⟩
  | 63 => ⟨S_, .i32⟩
  | 64 => ⟨S52, .i32⟩
  | 65 => ⟨S52, .i1⟩
  | 66 => ⟨S_, .i32⟩
  | 67 => ⟨S52, .i32⟩
  | 68 => ⟨S52, .i32⟩
  | 69 => ⟨S52, .i32⟩
  | 70 => ⟨S_, .i32⟩
  | 71 => ⟨S52, .i32⟩
  | 72 => ⟨S52, .i1⟩
  | 73 => ⟨S_, .i32⟩
  | 74 => ⟨S52, .i32⟩
  | 75 => ⟨S52, .i32⟩
  | 76 => ⟨S52, .i32⟩
  | 77 => ⟨S52x1, .i32⟩
  | 78 => ⟨S52x1, .i32⟩
  | 79 => ⟨S52x2, .i32⟩
  | 80 => ⟨S32x512x64x64, .f32⟩
  | 81 => ⟨S_, .f32⟩
  | 82 => ⟨S_, .f32⟩
  | 83 => ⟨S32x512x51, .f32⟩
  | 84 => ⟨S_, .i32⟩
  | 85 => ⟨S51, .i32⟩
  | 86 => ⟨S51, .i1⟩
  | 87 => ⟨S_, .i32⟩
  | 88 => ⟨S51, .i32⟩
  | 89 => ⟨S51, .i32⟩
  | 90 => ⟨S51, .i32⟩
  | 91 => ⟨S_, .i32⟩
  | 92 => ⟨S51, .i32⟩
  | 93 => ⟨S51, .i1⟩
  | 94 => ⟨S_, .i32⟩
  | 95 => ⟨S51, .i32⟩
  | 96 => ⟨S51, .i32⟩
  | 97 => ⟨S51, .i32⟩
  | 98 => ⟨S51x1, .i32⟩
  | 99 => ⟨S51x1, .i32⟩
  | 100 => ⟨S51x2, .i32⟩
  | 101 => ⟨S32x512x64x64, .f32⟩
  | 102 => ⟨S_, .f32⟩
  | 103 => ⟨S_, .f32⟩
  | 104 => ⟨S32x512x50, .f32⟩
  | 105 => ⟨S_, .i32⟩
  | 106 => ⟨S50, .i32⟩
  | 107 => ⟨S50, .i1⟩
  | 108 => ⟨S_, .i32⟩
  | 109 => ⟨S50, .i32⟩
  | 110 => ⟨S50, .i32⟩
  | 111 => ⟨S50, .i32⟩
  | 112 => ⟨S_, .i32⟩
  | 113 => ⟨S50, .i32⟩
  | 114 => ⟨S50, .i1⟩
  | 115 => ⟨S_, .i32⟩
  | 116 => ⟨S50, .i32⟩
  | 117 => ⟨S50, .i32⟩
  | 118 => ⟨S50, .i32⟩
  | 119 => ⟨S50x1, .i32⟩
  | 120 => ⟨S50x1, .i32⟩
  | 121 => ⟨S50x2, .i32⟩
  | 122 => ⟨S32x512x64x64, .f32⟩
  | 123 => ⟨S_, .f32⟩
  | 124 => ⟨S_, .f32⟩
  | 125 => ⟨S32x512x49, .f32⟩
  | 126 => ⟨S_, .i32⟩
  | 127 => ⟨S49, .i32⟩
  | _ => ⟨S32x512x64, .f32⟩

abbrev hbmTy0_3 (i : Nat) : BufTy := match i % 128 with
  | 0 => ⟨S49, .i1⟩
  | 1 => ⟨S_, .i32⟩
  | 2 => ⟨S49, .i32⟩
  | 3 => ⟨S49, .i32⟩
  | 4 => ⟨S49, .i32⟩
  | 5 => ⟨S_, .i32⟩
  | 6 => ⟨S49, .i32⟩
  | 7 => ⟨S49, .i1⟩
  | 8 => ⟨S_, .i32⟩
  | 9 => ⟨S49, .i32⟩
  | 10 => ⟨S49, .i32⟩
  | 11 => ⟨S49, .i32⟩
  | 12 => ⟨S49x1, .i32⟩
  | 13 => ⟨S49x1, .i32⟩
  | 14 => ⟨S49x2, .i32⟩
  | 15 => ⟨S32x512x64x64, .f32⟩
  | 16 => ⟨S_, .f32⟩
  | 17 => ⟨S_, .f32⟩
  | 18 => ⟨S32x512x24, .f32⟩
  | 19 => ⟨S_, .i32⟩
  | 20 => ⟨S24, .i32⟩
  | 21 => ⟨S24, .i1⟩
  | 22 => ⟨S_, .i32⟩
  | 23 => ⟨S24, .i32⟩
  | 24 => ⟨S24, .i32⟩
  | 25 => ⟨S24, .i32⟩
  | 26 => ⟨S_, .i32⟩
  | 27 => ⟨S24, .i32⟩
  | 28 => ⟨S24, .i1⟩
  | 29 => ⟨S_, .i32⟩
  | 30 => ⟨S24, .i32⟩
  | 31 => ⟨S24, .i32⟩
  | 32 => ⟨S24, .i32⟩
  | 33 => ⟨S24x1, .i32⟩
  | 34 => ⟨S24x1, .i32⟩
  | 35 => ⟨S24x2, .i32⟩
  | 36 => ⟨S32x512x64x64, .f32⟩
  | 37 => ⟨S_, .f32⟩
  | 38 => ⟨S_, .f32⟩
  | 39 => ⟨S32x512x23, .f32⟩
  | 40 => ⟨S_, .i32⟩
  | 41 => ⟨S23, .i32⟩
  | 42 => ⟨S23, .i1⟩
  | 43 => ⟨S_, .i32⟩
  | 44 => ⟨S23, .i32⟩
  | 45 => ⟨S23, .i32⟩
  | 46 => ⟨S23, .i32⟩
  | 47 => ⟨S_, .i32⟩
  | 48 => ⟨S23, .i32⟩
  | 49 => ⟨S23, .i1⟩
  | 50 => ⟨S_, .i32⟩
  | 51 => ⟨S23, .i32⟩
  | 52 => ⟨S23, .i32⟩
  | 53 => ⟨S23, .i32⟩
  | 54 => ⟨S23x1, .i32⟩
  | 55 => ⟨S23x1, .i32⟩
  | 56 => ⟨S23x2, .i32⟩
  | 57 => ⟨S32x512x64x64, .f32⟩
  | 58 => ⟨S_, .f32⟩
  | 59 => ⟨S_, .f32⟩
  | 60 => ⟨S32x512x22, .f32⟩
  | 61 => ⟨S_, .i32⟩
  | 62 => ⟨S22, .i32⟩
  | 63 => ⟨S22, .i1⟩
  | 64 => ⟨S_, .i32⟩
  | 65 => ⟨S22, .i32⟩
  | 66 => ⟨S22, .i32⟩
  | 67 => ⟨S22, .i32⟩
  | 68 => ⟨S_, .i32⟩
  | 69 => ⟨S22, .i32⟩
  | 70 => ⟨S22, .i1⟩
  | 71 => ⟨S_, .i32⟩
  | 72 => ⟨S22, .i32⟩
  | 73 => ⟨S22, .i32⟩
  | 74 => ⟨S22, .i32⟩
  | 75 => ⟨S22x1, .i32⟩
  | 76 => ⟨S22x1, .i32⟩
  | 77 => ⟨S22x2, .i32⟩
  | 78 => ⟨S32x512x64x64, .f32⟩
  | 79 => ⟨S_, .f32⟩
  | 80 => ⟨S_, .f32⟩
  | 81 => ⟨S32x512x21, .f32⟩
  | 82 => ⟨S_, .i32⟩
  | 83 => ⟨S21, .i32⟩
  | 84 => ⟨S21, .i1⟩
  | 85 => ⟨S_, .i32⟩
  | 86 => ⟨S21, .i32⟩
  | 87 => ⟨S21, .i32⟩
  | 88 => ⟨S21, .i32⟩
  | 89 => ⟨S_, .i32⟩
  | 90 => ⟨S21, .i32⟩
  | 91 => ⟨S21, .i1⟩
  | 92 => ⟨S_, .i32⟩
  | 93 => ⟨S21, .i32⟩
  | 94 => ⟨S21, .i32⟩
  | 95 => ⟨S21, .i32⟩
  | 96 => ⟨S21x1, .i32⟩
  | 97 => ⟨S21x1, .i32⟩
  | 98 => ⟨S21x2, .i32⟩
  | 99 => ⟨S32x512x64x64, .f32⟩
  | 100 => ⟨S_, .f32⟩
  | 101 => ⟨S_, .f32⟩
  | 102 => ⟨S32x512x20, .f32⟩
  | 103 => ⟨S_, .i32⟩
  | 104 => ⟨S20, .i32⟩
  | 105 => ⟨S20, .i1⟩
  | 106 => ⟨S_, .i32⟩
  | 107 => ⟨S20, .i32⟩
  | 108 => ⟨S20, .i32⟩
  | 109 => ⟨S20, .i32⟩
  | 110 => ⟨S_, .i32⟩
  | 111 => ⟨S20, .i32⟩
  | 112 => ⟨S20, .i1⟩
  | 113 => ⟨S_, .i32⟩
  | 114 => ⟨S20, .i32⟩
  | 115 => ⟨S20, .i32⟩
  | 116 => ⟨S20, .i32⟩
  | 117 => ⟨S20x1, .i32⟩
  | 118 => ⟨S20x1, .i32⟩
  | 119 => ⟨S20x2, .i32⟩
  | 120 => ⟨S32x512x64x64, .f32⟩
  | 121 => ⟨S_, .f32⟩
  | 122 => ⟨S_, .f32⟩
  | 123 => ⟨S32x512x19, .f32⟩
  | 124 => ⟨S_, .i32⟩
  | 125 => ⟨S19, .i32⟩
  | 126 => ⟨S19, .i1⟩
  | 127 => ⟨S_, .i32⟩
  | _ => ⟨S32x512x64, .f32⟩

abbrev hbmTy0_4 (i : Nat) : BufTy := match i % 128 with
  | 0 => ⟨S19, .i32⟩
  | 1 => ⟨S19, .i32⟩
  | 2 => ⟨S19, .i32⟩
  | 3 => ⟨S_, .i32⟩
  | 4 => ⟨S19, .i32⟩
  | 5 => ⟨S19, .i1⟩
  | 6 => ⟨S_, .i32⟩
  | 7 => ⟨S19, .i32⟩
  | 8 => ⟨S19, .i32⟩
  | 9 => ⟨S19, .i32⟩
  | 10 => ⟨S19x1, .i32⟩
  | 11 => ⟨S19x1, .i32⟩
  | 12 => ⟨S19x2, .i32⟩
  | 13 => ⟨S32x512x64x64, .f32⟩
  | 14 => ⟨S_, .f32⟩
  | 15 => ⟨S_, .f32⟩
  | 16 => ⟨S32x512x18, .f32⟩
  | 17 => ⟨S_, .i32⟩
  | 18 => ⟨S18, .i32⟩
  | 19 => ⟨S18, .i1⟩
  | 20 => ⟨S_, .i32⟩
  | 21 => ⟨S18, .i32⟩
  | 22 => ⟨S18, .i32⟩
  | 23 => ⟨S18, .i32⟩
  | 24 => ⟨S_, .i32⟩
  | 25 => ⟨S18, .i32⟩
  | 26 => ⟨S18, .i1⟩
  | 27 => ⟨S_, .i32⟩
  | 28 => ⟨S18, .i32⟩
  | 29 => ⟨S18, .i32⟩
  | 30 => ⟨S18, .i32⟩
  | 31 => ⟨S18x1, .i32⟩
  | 32 => ⟨S18x1, .i32⟩
  | 33 => ⟨S18x2, .i32⟩
  | 34 => ⟨S32x512x64x64, .f32⟩
  | 35 => ⟨S_, .f32⟩
  | 36 => ⟨S_, .f32⟩
  | 37 => ⟨S32x512x17, .f32⟩
  | 38 => ⟨S_, .i32⟩
  | 39 => ⟨S17, .i32⟩
  | 40 => ⟨S17, .i1⟩
  | 41 => ⟨S_, .i32⟩
  | 42 => ⟨S17, .i32⟩
  | 43 => ⟨S17, .i32⟩
  | 44 => ⟨S17, .i32⟩
  | 45 => ⟨S_, .i32⟩
  | 46 => ⟨S17, .i32⟩
  | 47 => ⟨S17, .i1⟩
  | 48 => ⟨S_, .i32⟩
  | 49 => ⟨S17, .i32⟩
  | 50 => ⟨S17, .i32⟩
  | 51 => ⟨S17, .i32⟩
  | 52 => ⟨S17x1, .i32⟩
  | 53 => ⟨S17x1, .i32⟩
  | 54 => ⟨S17x2, .i32⟩
  | 55 => ⟨S32x512x64x64, .f32⟩
  | 56 => ⟨S_, .f32⟩
  | 57 => ⟨S_, .f32⟩
  | 58 => ⟨S32x512x8, .f32⟩
  | 59 => ⟨S_, .i32⟩
  | 60 => ⟨S8, .i32⟩
  | 61 => ⟨S8, .i1⟩
  | 62 => ⟨S_, .i32⟩
  | 63 => ⟨S8, .i32⟩
  | 64 => ⟨S8, .i32⟩
  | 65 => ⟨S8, .i32⟩
  | 66 => ⟨S_, .i32⟩
  | 67 => ⟨S8, .i32⟩
  | 68 => ⟨S8, .i1⟩
  | 69 => ⟨S_, .i32⟩
  | 70 => ⟨S8, .i32⟩
  | 71 => ⟨S8, .i32⟩
  | 72 => ⟨S8, .i32⟩
  | 73 => ⟨S8x1, .i32⟩
  | 74 => ⟨S8x1, .i32⟩
  | 75 => ⟨S8x2, .i32⟩
  | 76 => ⟨S32x512x64x64, .f32⟩
  | 77 => ⟨S_, .f32⟩
  | 78 => ⟨S_, .f32⟩
  | 79 => ⟨S32x512x7, .f32⟩
  | 80 => ⟨S_, .i32⟩
  | 81 => ⟨S7, .i32⟩
  | 82 => ⟨S7, .i1⟩
  | 83 => ⟨S_, .i32⟩
  | 84 => ⟨S7, .i32⟩
  | 85 => ⟨S7, .i32⟩
  | 86 => ⟨S7, .i32⟩
  | 87 => ⟨S_, .i32⟩
  | 88 => ⟨S7, .i32⟩
  | 89 => ⟨S7, .i1⟩
  | 90 => ⟨S_, .i32⟩
  | 91 => ⟨S7, .i32⟩
  | 92 => ⟨S7, .i32⟩
  | 93 => ⟨S7, .i32⟩
  | 94 => ⟨S7x1, .i32⟩
  | 95 => ⟨S7x1, .i32⟩
  | 96 => ⟨S7x2, .i32⟩
  | 97 => ⟨S32x512x64x64, .f32⟩
  | 98 => ⟨S_, .f32⟩
  | 99 => ⟨S_, .f32⟩
  | 100 => ⟨S32x512x6, .f32⟩
  | 101 => ⟨S_, .i32⟩
  | 102 => ⟨S6, .i32⟩
  | 103 => ⟨S6, .i1⟩
  | 104 => ⟨S_, .i32⟩
  | 105 => ⟨S6, .i32⟩
  | 106 => ⟨S6, .i32⟩
  | 107 => ⟨S6, .i32⟩
  | 108 => ⟨S_, .i32⟩
  | 109 => ⟨S6, .i32⟩
  | 110 => ⟨S6, .i1⟩
  | 111 => ⟨S_, .i32⟩
  | 112 => ⟨S6, .i32⟩
  | 113 => ⟨S6, .i32⟩
  | 114 => ⟨S6, .i32⟩
  | 115 => ⟨S6x1, .i32⟩
  | 116 => ⟨S6x1, .i32⟩
  | 117 => ⟨S6x2, .i32⟩
  | 118 => ⟨S32x512x64x64, .f32⟩
  | 119 => ⟨S_, .f32⟩
  | 120 => ⟨S_, .f32⟩
  | 121 => ⟨S32x512x5, .f32⟩
  | 122 => ⟨S_, .i32⟩
  | 123 => ⟨S5, .i32⟩
  | 124 => ⟨S5, .i1⟩
  | 125 => ⟨S_, .i32⟩
  | 126 => ⟨S5, .i32⟩
  | 127 => ⟨S5, .i32⟩
  | _ => ⟨S32x512x64, .f32⟩

abbrev hbmTy0_5 (i : Nat) : BufTy := match i % 128 with
  | 0 => ⟨S5, .i32⟩
  | 1 => ⟨S_, .i32⟩
  | 2 => ⟨S5, .i32⟩
  | 3 => ⟨S5, .i1⟩
  | 4 => ⟨S_, .i32⟩
  | 5 => ⟨S5, .i32⟩
  | 6 => ⟨S5, .i32⟩
  | 7 => ⟨S5, .i32⟩
  | 8 => ⟨S5x1, .i32⟩
  | 9 => ⟨S5x1, .i32⟩
  | 10 => ⟨S5x2, .i32⟩
  | 11 => ⟨S32x512x64x64, .f32⟩
  | 12 => ⟨S_, .f32⟩
  | 13 => ⟨S_, .f32⟩
  | 14 => ⟨S32x512x4, .f32⟩
  | 15 => ⟨S_, .i32⟩
  | 16 => ⟨S4, .i32⟩
  | 17 => ⟨S4, .i1⟩
  | 18 => ⟨S_, .i32⟩
  | 19 => ⟨S4, .i32⟩
  | 20 => ⟨S4, .i32⟩
  | 21 => ⟨S4, .i32⟩
  | 22 => ⟨S_, .i32⟩
  | 23 => ⟨S4, .i32⟩
  | 24 => ⟨S4, .i1⟩
  | 25 => ⟨S_, .i32⟩
  | 26 => ⟨S4, .i32⟩
  | 27 => ⟨S4, .i32⟩
  | 28 => ⟨S4, .i32⟩
  | 29 => ⟨S4x1, .i32⟩
  | 30 => ⟨S4x1, .i32⟩
  | 31 => ⟨S4x2, .i32⟩
  | 32 => ⟨S32x512x64x64, .f32⟩
  | 33 => ⟨S_, .f32⟩
  | 34 => ⟨S_, .f32⟩
  | 35 => ⟨S32x512x3, .f32⟩
  | 36 => ⟨S_, .i32⟩
  | 37 => ⟨S3, .i32⟩
  | 38 => ⟨S3, .i1⟩
  | 39 => ⟨S_, .i32⟩
  | 40 => ⟨S3, .i32⟩
  | 41 => ⟨S3, .i32⟩
  | 42 => ⟨S3, .i32⟩
  | 43 => ⟨S_, .i32⟩
  | 44 => ⟨S3, .i32⟩
  | 45 => ⟨S3, .i1⟩
  | 46 => ⟨S_, .i32⟩
  | 47 => ⟨S3, .i32⟩
  | 48 => ⟨S3, .i32⟩
  | 49 => ⟨S3, .i32⟩
  | 50 => ⟨S3x1, .i32⟩
  | 51 => ⟨S3x1, .i32⟩
  | 52 => ⟨S3x2, .i32⟩
  | 53 => ⟨S32x512x64x64, .f32⟩
  | 54 => ⟨S_, .f32⟩
  | 55 => ⟨S_, .f32⟩
  | 56 => ⟨S32x512x2, .f32⟩
  | 57 => ⟨S_, .i32⟩
  | 58 => ⟨S2, .i32⟩
  | 59 => ⟨S2, .i1⟩
  | 60 => ⟨S_, .i32⟩
  | 61 => ⟨S2, .i32⟩
  | 62 => ⟨S2, .i32⟩
  | 63 => ⟨S2, .i32⟩
  | 64 => ⟨S_, .i32⟩
  | 65 => ⟨S2, .i32⟩
  | 66 => ⟨S2, .i1⟩
  | 67 => ⟨S_, .i32⟩
  | 68 => ⟨S2, .i32⟩
  | 69 => ⟨S2, .i32⟩
  | 70 => ⟨S2, .i32⟩
  | 71 => ⟨S2x1, .i32⟩
  | 72 => ⟨S2x1, .i32⟩
  | 73 => ⟨S2x2, .i32⟩
  | 74 => ⟨S32x512x64x64, .f32⟩
  | 75 => ⟨S_, .f32⟩
  | 76 => ⟨S_, .f32⟩
  | 77 => ⟨S32x512x1, .f32⟩
  | 78 => ⟨S_, .i32⟩
  | 79 => ⟨S1, .i32⟩
  | 80 => ⟨S1, .i1⟩
  | 81 => ⟨S_, .i32⟩
  | 82 => ⟨S1, .i32⟩
  | 83 => ⟨S1, .i32⟩
  | 84 => ⟨S1, .i32⟩
  | 85 => ⟨S_, .i32⟩
  | 86 => ⟨S1, .i32⟩
  | 87 => ⟨S1, .i1⟩
  | 88 => ⟨S_, .i32⟩
  | 89 => ⟨S1, .i32⟩
  | 90 => ⟨S1, .i32⟩
  | 91 => ⟨S1, .i32⟩
  | 92 => ⟨S1x1, .i32⟩
  | 93 => ⟨S1x1, .i32⟩
  | 94 => ⟨S1x2, .i32⟩
  | 95 => ⟨S32x512x64x64, .f32⟩
  | 96 => ⟨S1x1x64x64, .i1⟩
  | 97 => ⟨S32x1x64x64, .i1⟩
  | _ => ⟨S32x512x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32x512x64, .f32⟩

abbrev bufTy : (tb : Table) → Fin (tcTables nBuf tb) → BufTy
  | .hbm, ⟨i, _⟩ => hbmTy i
  | _, _ => ⟨S32x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_c_8 : Ref sig .tc := ⟨.hbm, 10, rfl⟩
abbrev main_c_9 : Ref sig .tc := ⟨.hbm, 11, rfl⟩
abbrev main_c_10 : Ref sig .tc := ⟨.hbm, 12, rfl⟩
abbrev main_c_11 : Ref sig .tc := ⟨.hbm, 13, rfl⟩
abbrev main_c_12 : Ref sig .tc := ⟨.hbm, 14, rfl⟩
abbrev main_c_13 : Ref sig .tc := ⟨.hbm, 15, rfl⟩
abbrev main_c_14 : Ref sig .tc := ⟨.hbm, 16, rfl⟩
abbrev main_c_15 : Ref sig .tc := ⟨.hbm, 17, rfl⟩
abbrev main_c_16 : Ref sig .tc := ⟨.hbm, 18, rfl⟩
abbrev main_c_17 : Ref sig .tc := ⟨.hbm, 19, rfl⟩
abbrev main_c_18 : Ref sig .tc := ⟨.hbm, 20, rfl⟩
abbrev main_c_19 : Ref sig .tc := ⟨.hbm, 21, rfl⟩
abbrev main_c_20 : Ref sig .tc := ⟨.hbm, 22, rfl⟩
abbrev main_c_21 : Ref sig .tc := ⟨.hbm, 23, rfl⟩
abbrev main_c_22 : Ref sig .tc := ⟨.hbm, 24, rfl⟩
abbrev main_c_23 : Ref sig .tc := ⟨.hbm, 25, rfl⟩
abbrev main_c_24 : Ref sig .tc := ⟨.hbm, 26, rfl⟩
abbrev main_c_25 : Ref sig .tc := ⟨.hbm, 27, rfl⟩
abbrev main_c_26 : Ref sig .tc := ⟨.hbm, 28, rfl⟩
abbrev main_c_27 : Ref sig .tc := ⟨.hbm, 29, rfl⟩
abbrev main_c_28 : Ref sig .tc := ⟨.hbm, 30, rfl⟩
abbrev main_c_29 : Ref sig .tc := ⟨.hbm, 31, rfl⟩
abbrev main_c_30 : Ref sig .tc := ⟨.hbm, 32, rfl⟩
abbrev main_c_31 : Ref sig .tc := ⟨.hbm, 33, rfl⟩
abbrev main_c_32 : Ref sig .tc := ⟨.hbm, 34, rfl⟩
abbrev main_c_33 : Ref sig .tc := ⟨.hbm, 35, rfl⟩
abbrev main_c_34 : Ref sig .tc := ⟨.hbm, 36, rfl⟩
abbrev main_c_35 : Ref sig .tc := ⟨.hbm, 37, rfl⟩
abbrev main_c_36 : Ref sig .tc := ⟨.hbm, 38, rfl⟩
abbrev main_c_37 : Ref sig .tc := ⟨.hbm, 39, rfl⟩
abbrev main_c_38 : Ref sig .tc := ⟨.hbm, 40, rfl⟩
abbrev main_c_39 : Ref sig .tc := ⟨.hbm, 41, rfl⟩
abbrev main_c_40 : Ref sig .tc := ⟨.hbm, 42, rfl⟩
abbrev main_c_41 : Ref sig .tc := ⟨.hbm, 43, rfl⟩
abbrev main_c_42 : Ref sig .tc := ⟨.hbm, 44, rfl⟩
abbrev main_c_43 : Ref sig .tc := ⟨.hbm, 45, rfl⟩
abbrev main_c_44 : Ref sig .tc := ⟨.hbm, 46, rfl⟩
abbrev main_c_45 : Ref sig .tc := ⟨.hbm, 47, rfl⟩
abbrev main_c_46 : Ref sig .tc := ⟨.hbm, 48, rfl⟩
abbrev main_c_47 : Ref sig .tc := ⟨.hbm, 49, rfl⟩
abbrev main_c_48 : Ref sig .tc := ⟨.hbm, 50, rfl⟩
abbrev main_c_49 : Ref sig .tc := ⟨.hbm, 51, rfl⟩
abbrev main_c_50 : Ref sig .tc := ⟨.hbm, 52, rfl⟩
abbrev main_c_51 : Ref sig .tc := ⟨.hbm, 53, rfl⟩
abbrev main_c_52 : Ref sig .tc := ⟨.hbm, 54, rfl⟩
abbrev main_c_53 : Ref sig .tc := ⟨.hbm, 55, rfl⟩
abbrev main_c_54 : Ref sig .tc := ⟨.hbm, 56, rfl⟩
abbrev main_c_55 : Ref sig .tc := ⟨.hbm, 57, rfl⟩
abbrev main_c_56 : Ref sig .tc := ⟨.hbm, 58, rfl⟩
abbrev main_c_57 : Ref sig .tc := ⟨.hbm, 59, rfl⟩
abbrev main_c_58 : Ref sig .tc := ⟨.hbm, 60, rfl⟩
abbrev main_c_59 : Ref sig .tc := ⟨.hbm, 61, rfl⟩
abbrev main_c_60 : Ref sig .tc := ⟨.hbm, 62, rfl⟩
abbrev main_c_61 : Ref sig .tc := ⟨.hbm, 63, rfl⟩
abbrev main_cst : Ref sig .tc := ⟨.hbm, 64, rfl⟩
abbrev main_v0 : Ref sig .tc := ⟨.hbm, 65, rfl⟩
abbrev main_v1 : Ref sig .tc := ⟨.hbm, 66, rfl⟩
abbrev main_c_62 : Ref sig .tc := ⟨.hbm, 67, rfl⟩
abbrev main_v2 : Ref sig .tc := ⟨.hbm, 68, rfl⟩
abbrev main_v3 : Ref sig .tc := ⟨.hbm, 69, rfl⟩
abbrev main_c_63 : Ref sig .tc := ⟨.hbm, 70, rfl⟩
abbrev main_v4 : Ref sig .tc := ⟨.hbm, 71, rfl⟩
abbrev main_v5 : Ref sig .tc := ⟨.hbm, 72, rfl⟩
abbrev main_v6 : Ref sig .tc := ⟨.hbm, 73, rfl⟩
abbrev main_c_64 : Ref sig .tc := ⟨.hbm, 74, rfl⟩
abbrev main_v7 : Ref sig .tc := ⟨.hbm, 75, rfl⟩
abbrev main_v8 : Ref sig .tc := ⟨.hbm, 76, rfl⟩
abbrev main_c_65 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_cst_66 : Ref sig .tc := ⟨.hbm, 85, rfl⟩
abbrev main_v16 : Ref sig .tc := ⟨.hbm, 86, rfl⟩
abbrev main_v17 : Ref sig .tc := ⟨.hbm, 87, rfl⟩
abbrev main_c_67 : Ref sig .tc := ⟨.hbm, 88, rfl⟩
abbrev main_v18 : Ref sig .tc := ⟨.hbm, 89, rfl⟩
abbrev main_v19 : Ref sig .tc := ⟨.hbm, 90, rfl⟩
abbrev main_c_68 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_c_69 : Ref sig .tc := ⟨.hbm, 95, rfl⟩
abbrev main_v23 : Ref sig .tc := ⟨.hbm, 96, rfl⟩
abbrev main_v24 : Ref sig .tc := ⟨.hbm, 97, rfl⟩
abbrev main_c_70 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_cst_71 : Ref sig .tc := ⟨.hbm, 106, rfl⟩
abbrev main_v32 : Ref sig .tc := ⟨.hbm, 107, rfl⟩
abbrev main_v33 : Ref sig .tc := ⟨.hbm, 108, rfl⟩
abbrev main_c_72 : Ref sig .tc := ⟨.hbm, 109, rfl⟩
abbrev main_v34 : Ref sig .tc := ⟨.hbm, 110, rfl⟩
abbrev main_v35 : Ref sig .tc := ⟨.hbm, 111, rfl⟩
abbrev main_c_73 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_c_74 : Ref sig .tc := ⟨.hbm, 116, rfl⟩
abbrev main_v39 : Ref sig .tc := ⟨.hbm, 117, rfl⟩
abbrev main_v40 : Ref sig .tc := ⟨.hbm, 118, rfl⟩
abbrev main_c_75 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_cst_76 : Ref sig .tc := ⟨.hbm, 127, rfl⟩
abbrev main_v48 : Ref sig .tc := ⟨.hbm, 128, rfl⟩
abbrev main_v49 : Ref sig .tc := ⟨.hbm, 129, rfl⟩
abbrev main_c_77 : Ref sig .tc := ⟨.hbm, 130, rfl⟩
abbrev main_v50 : Ref sig .tc := ⟨.hbm, 131, rfl⟩
abbrev main_v51 : Ref sig .tc := ⟨.hbm, 132, rfl⟩
abbrev main_c_78 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_c_79 : Ref sig .tc := ⟨.hbm, 137, rfl⟩
abbrev main_v55 : Ref sig .tc := ⟨.hbm, 138, rfl⟩
abbrev main_v56 : Ref sig .tc := ⟨.hbm, 139, rfl⟩
abbrev main_c_80 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_cst_81 : Ref sig .tc := ⟨.hbm, 148, rfl⟩
abbrev main_v64 : Ref sig .tc := ⟨.hbm, 149, rfl⟩
abbrev main_v65 : Ref sig .tc := ⟨.hbm, 150, rfl⟩
abbrev main_c_82 : Ref sig .tc := ⟨.hbm, 151, rfl⟩
abbrev main_v66 : Ref sig .tc := ⟨.hbm, 152, rfl⟩
abbrev main_v67 : Ref sig .tc := ⟨.hbm, 153, rfl⟩
abbrev main_c_83 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_c_84 : Ref sig .tc := ⟨.hbm, 158, rfl⟩
abbrev main_v71 : Ref sig .tc := ⟨.hbm, 159, rfl⟩
abbrev main_v72 : Ref sig .tc := ⟨.hbm, 160, rfl⟩
abbrev main_c_85 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_cst_86 : Ref sig .tc := ⟨.hbm, 169, rfl⟩
abbrev main_v80 : Ref sig .tc := ⟨.hbm, 170, rfl⟩
abbrev main_v81 : Ref sig .tc := ⟨.hbm, 171, rfl⟩
abbrev main_c_87 : Ref sig .tc := ⟨.hbm, 172, rfl⟩
abbrev main_v82 : Ref sig .tc := ⟨.hbm, 173, rfl⟩
abbrev main_v83 : Ref sig .tc := ⟨.hbm, 174, rfl⟩
abbrev main_c_88 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_c_89 : Ref sig .tc := ⟨.hbm, 179, rfl⟩
abbrev main_v87 : Ref sig .tc := ⟨.hbm, 180, rfl⟩
abbrev main_v88 : Ref sig .tc := ⟨.hbm, 181, rfl⟩
abbrev main_c_90 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_cst_91 : Ref sig .tc := ⟨.hbm, 190, rfl⟩
abbrev main_v96 : Ref sig .tc := ⟨.hbm, 191, rfl⟩
abbrev main_v97 : Ref sig .tc := ⟨.hbm, 192, rfl⟩
abbrev main_c_92 : Ref sig .tc := ⟨.hbm, 193, rfl⟩
abbrev main_v98 : Ref sig .tc := ⟨.hbm, 194, rfl⟩
abbrev main_v99 : Ref sig .tc := ⟨.hbm, 195, rfl⟩
abbrev main_c_93 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_c_94 : Ref sig .tc := ⟨.hbm, 200, rfl⟩
abbrev main_v103 : Ref sig .tc := ⟨.hbm, 201, rfl⟩
abbrev main_v104 : Ref sig .tc := ⟨.hbm, 202, rfl⟩
abbrev main_c_95 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_cst_96 : Ref sig .tc := ⟨.hbm, 211, rfl⟩
abbrev main_v112 : Ref sig .tc := ⟨.hbm, 212, rfl⟩
abbrev main_v113 : Ref sig .tc := ⟨.hbm, 213, rfl⟩
abbrev main_c_97 : Ref sig .tc := ⟨.hbm, 214, rfl⟩
abbrev main_v114 : Ref sig .tc := ⟨.hbm, 215, rfl⟩
abbrev main_v115 : Ref sig .tc := ⟨.hbm, 216, rfl⟩
abbrev main_c_98 : Ref sig .tc := ⟨.hbm, 217, rfl⟩
abbrev main_v116 : Ref sig .tc := ⟨.hbm, 218, rfl⟩
abbrev main_v117 : Ref sig .tc := ⟨.hbm, 219, rfl⟩
abbrev main_v118 : Ref sig .tc := ⟨.hbm, 220, rfl⟩
abbrev main_c_99 : Ref sig .tc := ⟨.hbm, 221, rfl⟩
abbrev main_v119 : Ref sig .tc := ⟨.hbm, 222, rfl⟩
abbrev main_v120 : Ref sig .tc := ⟨.hbm, 223, rfl⟩
abbrev main_c_100 : Ref sig .tc := ⟨.hbm, 224, rfl⟩
abbrev main_v121 : Ref sig .tc := ⟨.hbm, 225, rfl⟩
abbrev main_v122 : Ref sig .tc := ⟨.hbm, 226, rfl⟩
abbrev main_v123 : Ref sig .tc := ⟨.hbm, 227, rfl⟩
abbrev main_v124 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_cst_101 : Ref sig .tc := ⟨.hbm, 232, rfl⟩
abbrev main_v128 : Ref sig .tc := ⟨.hbm, 233, rfl⟩
abbrev main_v129 : Ref sig .tc := ⟨.hbm, 234, rfl⟩
abbrev main_c_102 : Ref sig .tc := ⟨.hbm, 235, rfl⟩
abbrev main_v130 : Ref sig .tc := ⟨.hbm, 236, rfl⟩
abbrev main_v131 : Ref sig .tc := ⟨.hbm, 237, rfl⟩
abbrev main_c_103 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_c_104 : Ref sig .tc := ⟨.hbm, 242, rfl⟩
abbrev main_v135 : Ref sig .tc := ⟨.hbm, 243, rfl⟩
abbrev main_v136 : Ref sig .tc := ⟨.hbm, 244, rfl⟩
abbrev main_c_105 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_cst_106 : Ref sig .tc := ⟨.hbm, 253, rfl⟩
abbrev main_v144 : Ref sig .tc := ⟨.hbm, 254, rfl⟩
abbrev main_v145 : Ref sig .tc := ⟨.hbm, 255, rfl⟩
abbrev main_c_107 : Ref sig .tc := ⟨.hbm, 256, rfl⟩
abbrev main_v146 : Ref sig .tc := ⟨.hbm, 257, rfl⟩
abbrev main_v147 : Ref sig .tc := ⟨.hbm, 258, rfl⟩
abbrev main_c_108 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_c_109 : Ref sig .tc := ⟨.hbm, 263, rfl⟩
abbrev main_v151 : Ref sig .tc := ⟨.hbm, 264, rfl⟩
abbrev main_v152 : Ref sig .tc := ⟨.hbm, 265, rfl⟩
abbrev main_c_110 : Ref sig .tc := ⟨.hbm, 266, rfl⟩
abbrev main_v153 : Ref sig .tc := ⟨.hbm, 267, rfl⟩
abbrev main_v154 : Ref sig .tc := ⟨.hbm, 268, rfl⟩
abbrev main_v155 : Ref sig .tc := ⟨.hbm, 269, rfl⟩
abbrev main_v156 : Ref sig .tc := ⟨.hbm, 270, rfl⟩
abbrev main_v157 : Ref sig .tc := ⟨.hbm, 271, rfl⟩
abbrev main_v158 : Ref sig .tc := ⟨.hbm, 272, rfl⟩
abbrev main_v159 : Ref sig .tc := ⟨.hbm, 273, rfl⟩
abbrev main_cst_111 : Ref sig .tc := ⟨.hbm, 274, rfl⟩
abbrev main_v160 : Ref sig .tc := ⟨.hbm, 275, rfl⟩
abbrev main_v161 : Ref sig .tc := ⟨.hbm, 276, rfl⟩
abbrev main_c_112 : Ref sig .tc := ⟨.hbm, 277, rfl⟩
abbrev main_v162 : Ref sig .tc := ⟨.hbm, 278, rfl⟩
abbrev main_v163 : Ref sig .tc := ⟨.hbm, 279, rfl⟩
abbrev main_c_113 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_c_114 : Ref sig .tc := ⟨.hbm, 284, rfl⟩
abbrev main_v167 : Ref sig .tc := ⟨.hbm, 285, rfl⟩
abbrev main_v168 : Ref sig .tc := ⟨.hbm, 286, rfl⟩
abbrev main_c_115 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_v174 : Ref sig .tc := ⟨.hbm, 293, rfl⟩
abbrev main_v175 : Ref sig .tc := ⟨.hbm, 294, rfl⟩
abbrev main_cst_116 : Ref sig .tc := ⟨.hbm, 295, rfl⟩
abbrev main_v176 : Ref sig .tc := ⟨.hbm, 296, rfl⟩
abbrev main_v177 : Ref sig .tc := ⟨.hbm, 297, rfl⟩
abbrev main_c_117 : Ref sig .tc := ⟨.hbm, 298, rfl⟩
abbrev main_v178 : Ref sig .tc := ⟨.hbm, 299, rfl⟩
abbrev main_v179 : Ref sig .tc := ⟨.hbm, 300, rfl⟩
abbrev main_c_118 : Ref sig .tc := ⟨.hbm, 301, rfl⟩
abbrev main_v180 : Ref sig .tc := ⟨.hbm, 302, rfl⟩
abbrev main_v181 : Ref sig .tc := ⟨.hbm, 303, rfl⟩
abbrev main_v182 : Ref sig .tc := ⟨.hbm, 304, rfl⟩
abbrev main_c_119 : Ref sig .tc := ⟨.hbm, 305, rfl⟩
abbrev main_v183 : Ref sig .tc := ⟨.hbm, 306, rfl⟩
abbrev main_v184 : Ref sig .tc := ⟨.hbm, 307, rfl⟩
abbrev main_c_120 : Ref sig .tc := ⟨.hbm, 308, rfl⟩
abbrev main_v185 : Ref sig .tc := ⟨.hbm, 309, rfl⟩
abbrev main_v186 : Ref sig .tc := ⟨.hbm, 310, rfl⟩
abbrev main_v187 : Ref sig .tc := ⟨.hbm, 311, rfl⟩
abbrev main_v188 : Ref sig .tc := ⟨.hbm, 312, rfl⟩
abbrev main_v189 : Ref sig .tc := ⟨.hbm, 313, rfl⟩
abbrev main_v190 : Ref sig .tc := ⟨.hbm, 314, rfl⟩
abbrev main_v191 : Ref sig .tc := ⟨.hbm, 315, rfl⟩
abbrev main_cst_121 : Ref sig .tc := ⟨.hbm, 316, rfl⟩
abbrev main_v192 : Ref sig .tc := ⟨.hbm, 317, rfl⟩
abbrev main_v193 : Ref sig .tc := ⟨.hbm, 318, rfl⟩
abbrev main_c_122 : Ref sig .tc := ⟨.hbm, 319, rfl⟩
abbrev main_v194 : Ref sig .tc := ⟨.hbm, 320, rfl⟩
abbrev main_v195 : Ref sig .tc := ⟨.hbm, 321, rfl⟩
abbrev main_c_123 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_c_124 : Ref sig .tc := ⟨.hbm, 326, rfl⟩
abbrev main_v199 : Ref sig .tc := ⟨.hbm, 327, rfl⟩
abbrev main_v200 : Ref sig .tc := ⟨.hbm, 328, rfl⟩
abbrev main_c_125 : Ref sig .tc := ⟨.hbm, 329, rfl⟩
abbrev main_v201 : Ref sig .tc := ⟨.hbm, 330, rfl⟩
abbrev main_v202 : Ref sig .tc := ⟨.hbm, 331, rfl⟩
abbrev main_v203 : Ref sig .tc := ⟨.hbm, 332, rfl⟩
abbrev main_v204 : Ref sig .tc := ⟨.hbm, 333, rfl⟩
abbrev main_v205 : Ref sig .tc := ⟨.hbm, 334, rfl⟩
abbrev main_v206 : Ref sig .tc := ⟨.hbm, 335, rfl⟩
abbrev main_v207 : Ref sig .tc := ⟨.hbm, 336, rfl⟩
abbrev main_cst_126 : Ref sig .tc := ⟨.hbm, 337, rfl⟩
abbrev main_v208 : Ref sig .tc := ⟨.hbm, 338, rfl⟩
abbrev main_v209 : Ref sig .tc := ⟨.hbm, 339, rfl⟩
abbrev main_c_127 : Ref sig .tc := ⟨.hbm, 340, rfl⟩
abbrev main_v210 : Ref sig .tc := ⟨.hbm, 341, rfl⟩
abbrev main_v211 : Ref sig .tc := ⟨.hbm, 342, rfl⟩
abbrev main_c_128 : Ref sig .tc := ⟨.hbm, 343, rfl⟩
abbrev main_v212 : Ref sig .tc := ⟨.hbm, 344, rfl⟩
abbrev main_v213 : Ref sig .tc := ⟨.hbm, 345, rfl⟩
abbrev main_v214 : Ref sig .tc := ⟨.hbm, 346, rfl⟩
abbrev main_c_129 : Ref sig .tc := ⟨.hbm, 347, rfl⟩
abbrev main_v215 : Ref sig .tc := ⟨.hbm, 348, rfl⟩
abbrev main_v216 : Ref sig .tc := ⟨.hbm, 349, rfl⟩
abbrev main_c_130 : Ref sig .tc := ⟨.hbm, 350, rfl⟩
abbrev main_v217 : Ref sig .tc := ⟨.hbm, 351, rfl⟩
abbrev main_v218 : Ref sig .tc := ⟨.hbm, 352, rfl⟩
abbrev main_v219 : Ref sig .tc := ⟨.hbm, 353, rfl⟩
abbrev main_v220 : Ref sig .tc := ⟨.hbm, 354, rfl⟩
abbrev main_v221 : Ref sig .tc := ⟨.hbm, 355, rfl⟩
abbrev main_v222 : Ref sig .tc := ⟨.hbm, 356, rfl⟩
abbrev main_v223 : Ref sig .tc := ⟨.hbm, 357, rfl⟩
abbrev main_cst_131 : Ref sig .tc := ⟨.hbm, 358, rfl⟩
abbrev main_v224 : Ref sig .tc := ⟨.hbm, 359, rfl⟩
abbrev main_v225 : Ref sig .tc := ⟨.hbm, 360, rfl⟩
abbrev main_c_132 : Ref sig .tc := ⟨.hbm, 361, rfl⟩
abbrev main_v226 : Ref sig .tc := ⟨.hbm, 362, rfl⟩
abbrev main_v227 : Ref sig .tc := ⟨.hbm, 363, rfl⟩
abbrev main_c_133 : Ref sig .tc := ⟨.hbm, 364, rfl⟩
abbrev main_v228 : Ref sig .tc := ⟨.hbm, 365, rfl⟩
abbrev main_v229 : Ref sig .tc := ⟨.hbm, 366, rfl⟩
abbrev main_v230 : Ref sig .tc := ⟨.hbm, 367, rfl⟩
abbrev main_c_134 : Ref sig .tc := ⟨.hbm, 368, rfl⟩
abbrev main_v231 : Ref sig .tc := ⟨.hbm, 369, rfl⟩
abbrev main_v232 : Ref sig .tc := ⟨.hbm, 370, rfl⟩
abbrev main_c_135 : Ref sig .tc := ⟨.hbm, 371, rfl⟩
abbrev main_v233 : Ref sig .tc := ⟨.hbm, 372, rfl⟩
abbrev main_v234 : Ref sig .tc := ⟨.hbm, 373, rfl⟩
abbrev main_v235 : Ref sig .tc := ⟨.hbm, 374, rfl⟩
abbrev main_v236 : Ref sig .tc := ⟨.hbm, 375, rfl⟩
abbrev main_v237 : Ref sig .tc := ⟨.hbm, 376, rfl⟩
abbrev main_v238 : Ref sig .tc := ⟨.hbm, 377, rfl⟩
abbrev main_v239 : Ref sig .tc := ⟨.hbm, 378, rfl⟩
abbrev main_cst_136 : Ref sig .tc := ⟨.hbm, 379, rfl⟩
abbrev main_v240 : Ref sig .tc := ⟨.hbm, 380, rfl⟩
abbrev main_v241 : Ref sig .tc := ⟨.hbm, 381, rfl⟩
abbrev main_c_137 : Ref sig .tc := ⟨.hbm, 382, rfl⟩
abbrev main_v242 : Ref sig .tc := ⟨.hbm, 383, rfl⟩
abbrev main_v243 : Ref sig .tc := ⟨.hbm, 384, rfl⟩
abbrev main_c_138 : Ref sig .tc := ⟨.hbm, 385, rfl⟩
abbrev main_v244 : Ref sig .tc := ⟨.hbm, 386, rfl⟩
abbrev main_v245 : Ref sig .tc := ⟨.hbm, 387, rfl⟩
abbrev main_v246 : Ref sig .tc := ⟨.hbm, 388, rfl⟩
abbrev main_c_139 : Ref sig .tc := ⟨.hbm, 389, rfl⟩
abbrev main_v247 : Ref sig .tc := ⟨.hbm, 390, rfl⟩
abbrev main_v248 : Ref sig .tc := ⟨.hbm, 391, rfl⟩
abbrev main_c_140 : Ref sig .tc := ⟨.hbm, 392, rfl⟩
abbrev main_v249 : Ref sig .tc := ⟨.hbm, 393, rfl⟩
abbrev main_v250 : Ref sig .tc := ⟨.hbm, 394, rfl⟩
abbrev main_v251 : Ref sig .tc := ⟨.hbm, 395, rfl⟩
abbrev main_v252 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_141 : Ref sig .tc := ⟨.hbm, 400, rfl⟩
abbrev main_v256 : Ref sig .tc := ⟨.hbm, 401, rfl⟩
abbrev main_v257 : Ref sig .tc := ⟨.hbm, 402, rfl⟩
abbrev main_c_142 : Ref sig .tc := ⟨.hbm, 403, rfl⟩
abbrev main_v258 : Ref sig .tc := ⟨.hbm, 404, rfl⟩
abbrev main_v259 : Ref sig .tc := ⟨.hbm, 405, rfl⟩
abbrev main_c_143 : Ref sig .tc := ⟨.hbm, 406, rfl⟩
abbrev main_v260 : Ref sig .tc := ⟨.hbm, 407, rfl⟩
abbrev main_v261 : Ref sig .tc := ⟨.hbm, 408, rfl⟩
abbrev main_v262 : Ref sig .tc := ⟨.hbm, 409, rfl⟩
abbrev main_c_144 : Ref sig .tc := ⟨.hbm, 410, rfl⟩
abbrev main_v263 : Ref sig .tc := ⟨.hbm, 411, rfl⟩
abbrev main_v264 : Ref sig .tc := ⟨.hbm, 412, rfl⟩
abbrev main_c_145 : Ref sig .tc := ⟨.hbm, 413, rfl⟩
abbrev main_v265 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_v269 : Ref sig .tc := ⟨.hbm, 418, rfl⟩
abbrev main_v270 : Ref sig .tc := ⟨.hbm, 419, rfl⟩
abbrev main_v271 : Ref sig .tc := ⟨.hbm, 420, rfl⟩
abbrev main_cst_146 : Ref sig .tc := ⟨.hbm, 421, rfl⟩
abbrev main_v272 : Ref sig .tc := ⟨.hbm, 422, rfl⟩
abbrev main_v273 : Ref sig .tc := ⟨.hbm, 423, rfl⟩
abbrev main_c_147 : Ref sig .tc := ⟨.hbm, 424, rfl⟩
abbrev main_v274 : Ref sig .tc := ⟨.hbm, 425, rfl⟩
abbrev main_v275 : Ref sig .tc := ⟨.hbm, 426, rfl⟩
abbrev main_c_148 : Ref sig .tc := ⟨.hbm, 427, rfl⟩
abbrev main_v276 : Ref sig .tc := ⟨.hbm, 428, rfl⟩
abbrev main_v277 : Ref sig .tc := ⟨.hbm, 429, rfl⟩
abbrev main_v278 : Ref sig .tc := ⟨.hbm, 430, rfl⟩
abbrev main_c_149 : Ref sig .tc := ⟨.hbm, 431, rfl⟩
abbrev main_v279 : Ref sig .tc := ⟨.hbm, 432, rfl⟩
abbrev main_v280 : Ref sig .tc := ⟨.hbm, 433, rfl⟩
abbrev main_c_150 : Ref sig .tc := ⟨.hbm, 434, rfl⟩
abbrev main_v281 : Ref sig .tc := ⟨.hbm, 435, rfl⟩
abbrev main_v282 : Ref sig .tc := ⟨.hbm, 436, rfl⟩
abbrev main_v283 : Ref sig .tc := ⟨.hbm, 437, rfl⟩
abbrev main_v284 : Ref sig .tc := ⟨.hbm, 438, rfl⟩
abbrev main_v285 : Ref sig .tc := ⟨.hbm, 439, rfl⟩
abbrev main_v286 : Ref sig .tc := ⟨.hbm, 440, rfl⟩
abbrev main_v287 : Ref sig .tc := ⟨.hbm, 441, rfl⟩
abbrev main_cst_151 : Ref sig .tc := ⟨.hbm, 442, rfl⟩
abbrev main_v288 : Ref sig .tc := ⟨.hbm, 443, rfl⟩
abbrev main_v289 : Ref sig .tc := ⟨.hbm, 444, rfl⟩
abbrev main_c_152 : Ref sig .tc := ⟨.hbm, 445, rfl⟩
abbrev main_v290 : Ref sig .tc := ⟨.hbm, 446, rfl⟩
abbrev main_v291 : Ref sig .tc := ⟨.hbm, 447, rfl⟩
abbrev main_c_153 : Ref sig .tc := ⟨.hbm, 448, rfl⟩
abbrev main_v292 : Ref sig .tc := ⟨.hbm, 449, rfl⟩
abbrev main_v293 : Ref sig .tc := ⟨.hbm, 450, rfl⟩
abbrev main_v294 : Ref sig .tc := ⟨.hbm, 451, rfl⟩
abbrev main_c_154 : Ref sig .tc := ⟨.hbm, 452, rfl⟩
abbrev main_v295 : Ref sig .tc := ⟨.hbm, 453, rfl⟩
abbrev main_v296 : Ref sig .tc := ⟨.hbm, 454, rfl⟩
abbrev main_c_155 : Ref sig .tc := ⟨.hbm, 455, rfl⟩
abbrev main_v297 : Ref sig .tc := ⟨.hbm, 456, rfl⟩
abbrev main_v298 : Ref sig .tc := ⟨.hbm, 457, rfl⟩
abbrev main_v299 : Ref sig .tc := ⟨.hbm, 458, rfl⟩
abbrev main_v300 : Ref sig .tc := ⟨.hbm, 459, rfl⟩
abbrev main_v301 : Ref sig .tc := ⟨.hbm, 460, rfl⟩
abbrev main_v302 : Ref sig .tc := ⟨.hbm, 461, rfl⟩
abbrev main_v303 : Ref sig .tc := ⟨.hbm, 462, rfl⟩
abbrev main_cst_156 : Ref sig .tc := ⟨.hbm, 463, rfl⟩
abbrev main_v304 : Ref sig .tc := ⟨.hbm, 464, rfl⟩
abbrev main_v305 : Ref sig .tc := ⟨.hbm, 465, rfl⟩
abbrev main_c_157 : Ref sig .tc := ⟨.hbm, 466, rfl⟩
abbrev main_v306 : Ref sig .tc := ⟨.hbm, 467, rfl⟩
abbrev main_v307 : Ref sig .tc := ⟨.hbm, 468, rfl⟩
abbrev main_c_158 : Ref sig .tc := ⟨.hbm, 469, rfl⟩
abbrev main_v308 : Ref sig .tc := ⟨.hbm, 470, rfl⟩
abbrev main_v309 : Ref sig .tc := ⟨.hbm, 471, rfl⟩
abbrev main_v310 : Ref sig .tc := ⟨.hbm, 472, rfl⟩
abbrev main_c_159 : Ref sig .tc := ⟨.hbm, 473, rfl⟩
abbrev main_v311 : Ref sig .tc := ⟨.hbm, 474, rfl⟩
abbrev main_v312 : Ref sig .tc := ⟨.hbm, 475, rfl⟩
abbrev main_c_160 : Ref sig .tc := ⟨.hbm, 476, rfl⟩
abbrev main_v313 : Ref sig .tc := ⟨.hbm, 477, rfl⟩
abbrev main_v314 : Ref sig .tc := ⟨.hbm, 478, rfl⟩
abbrev main_v315 : Ref sig .tc := ⟨.hbm, 479, rfl⟩
abbrev main_v316 : Ref sig .tc := ⟨.hbm, 480, rfl⟩
abbrev main_v317 : Ref sig .tc := ⟨.hbm, 481, rfl⟩
abbrev main_v318 : Ref sig .tc := ⟨.hbm, 482, rfl⟩
abbrev main_v319 : Ref sig .tc := ⟨.hbm, 483, rfl⟩
abbrev main_cst_161 : Ref sig .tc := ⟨.hbm, 484, rfl⟩
abbrev main_v320 : Ref sig .tc := ⟨.hbm, 485, rfl⟩
abbrev main_v321 : Ref sig .tc := ⟨.hbm, 486, rfl⟩
abbrev main_c_162 : Ref sig .tc := ⟨.hbm, 487, rfl⟩
abbrev main_v322 : Ref sig .tc := ⟨.hbm, 488, rfl⟩
abbrev main_v323 : Ref sig .tc := ⟨.hbm, 489, rfl⟩
abbrev main_c_163 : Ref sig .tc := ⟨.hbm, 490, rfl⟩
abbrev main_v324 : Ref sig .tc := ⟨.hbm, 491, rfl⟩
abbrev main_v325 : Ref sig .tc := ⟨.hbm, 492, rfl⟩
abbrev main_v326 : Ref sig .tc := ⟨.hbm, 493, rfl⟩
abbrev main_c_164 : Ref sig .tc := ⟨.hbm, 494, rfl⟩
abbrev main_v327 : Ref sig .tc := ⟨.hbm, 495, rfl⟩
abbrev main_v328 : Ref sig .tc := ⟨.hbm, 496, rfl⟩
abbrev main_c_165 : Ref sig .tc := ⟨.hbm, 497, rfl⟩
abbrev main_v329 : Ref sig .tc := ⟨.hbm, 498, rfl⟩
abbrev main_v330 : Ref sig .tc := ⟨.hbm, 499, rfl⟩
abbrev main_v331 : Ref sig .tc := ⟨.hbm, 500, rfl⟩
abbrev main_v332 : Ref sig .tc := ⟨.hbm, 501, rfl⟩
abbrev main_v333 : Ref sig .tc := ⟨.hbm, 502, rfl⟩
abbrev main_v334 : Ref sig .tc := ⟨.hbm, 503, rfl⟩
abbrev main_v335 : Ref sig .tc := ⟨.hbm, 504, rfl⟩
abbrev main_cst_166 : Ref sig .tc := ⟨.hbm, 505, rfl⟩
abbrev main_v336 : Ref sig .tc := ⟨.hbm, 506, rfl⟩
abbrev main_v337 : Ref sig .tc := ⟨.hbm, 507, rfl⟩
abbrev main_c_167 : Ref sig .tc := ⟨.hbm, 508, rfl⟩
abbrev main_v338 : Ref sig .tc := ⟨.hbm, 509, rfl⟩
abbrev main_v339 : Ref sig .tc := ⟨.hbm, 510, rfl⟩
abbrev main_c_168 : Ref sig .tc := ⟨.hbm, 511, rfl⟩
abbrev main_v340 : Ref sig .tc := ⟨.hbm, 512, rfl⟩
abbrev main_v341 : Ref sig .tc := ⟨.hbm, 513, rfl⟩
abbrev main_v342 : Ref sig .tc := ⟨.hbm, 514, rfl⟩
abbrev main_c_169 : Ref sig .tc := ⟨.hbm, 515, rfl⟩
abbrev main_v343 : Ref sig .tc := ⟨.hbm, 516, rfl⟩
abbrev main_v344 : Ref sig .tc := ⟨.hbm, 517, rfl⟩
abbrev main_c_170 : Ref sig .tc := ⟨.hbm, 518, rfl⟩
abbrev main_v345 : Ref sig .tc := ⟨.hbm, 519, rfl⟩
abbrev main_v346 : Ref sig .tc := ⟨.hbm, 520, rfl⟩
abbrev main_v347 : Ref sig .tc := ⟨.hbm, 521, rfl⟩
abbrev main_v348 : Ref sig .tc := ⟨.hbm, 522, rfl⟩
abbrev main_v349 : Ref sig .tc := ⟨.hbm, 523, rfl⟩
abbrev main_v350 : Ref sig .tc := ⟨.hbm, 524, rfl⟩
abbrev main_v351 : Ref sig .tc := ⟨.hbm, 525, rfl⟩
abbrev main_cst_171 : Ref sig .tc := ⟨.hbm, 526, rfl⟩
abbrev main_v352 : Ref sig .tc := ⟨.hbm, 527, rfl⟩
abbrev main_v353 : Ref sig .tc := ⟨.hbm, 528, rfl⟩
abbrev main_c_172 : Ref sig .tc := ⟨.hbm, 529, rfl⟩
abbrev main_v354 : Ref sig .tc := ⟨.hbm, 530, rfl⟩
abbrev main_v355 : Ref sig .tc := ⟨.hbm, 531, rfl⟩
abbrev main_c_173 : Ref sig .tc := ⟨.hbm, 532, rfl⟩
abbrev main_v356 : Ref sig .tc := ⟨.hbm, 533, rfl⟩
abbrev main_v357 : Ref sig .tc := ⟨.hbm, 534, rfl⟩
abbrev main_v358 : Ref sig .tc := ⟨.hbm, 535, rfl⟩
abbrev main_c_174 : Ref sig .tc := ⟨.hbm, 536, rfl⟩
abbrev main_v359 : Ref sig .tc := ⟨.hbm, 537, rfl⟩
abbrev main_v360 : Ref sig .tc := ⟨.hbm, 538, rfl⟩
abbrev main_c_175 : Ref sig .tc := ⟨.hbm, 539, rfl⟩
abbrev main_v361 : Ref sig .tc := ⟨.hbm, 540, rfl⟩
abbrev main_v362 : Ref sig .tc := ⟨.hbm, 541, rfl⟩
abbrev main_v363 : Ref sig .tc := ⟨.hbm, 542, rfl⟩
abbrev main_v364 : Ref sig .tc := ⟨.hbm, 543, rfl⟩
abbrev main_v365 : Ref sig .tc := ⟨.hbm, 544, rfl⟩
abbrev main_v366 : Ref sig .tc := ⟨.hbm, 545, rfl⟩
abbrev main_v367 : Ref sig .tc := ⟨.hbm, 546, rfl⟩
abbrev main_cst_176 : Ref sig .tc := ⟨.hbm, 547, rfl⟩
abbrev main_v368 : Ref sig .tc := ⟨.hbm, 548, rfl⟩
abbrev main_v369 : Ref sig .tc := ⟨.hbm, 549, rfl⟩
abbrev main_c_177 : Ref sig .tc := ⟨.hbm, 550, rfl⟩
abbrev main_v370 : Ref sig .tc := ⟨.hbm, 551, rfl⟩
abbrev main_v371 : Ref sig .tc := ⟨.hbm, 552, rfl⟩
abbrev main_c_178 : Ref sig .tc := ⟨.hbm, 553, rfl⟩
abbrev main_v372 : Ref sig .tc := ⟨.hbm, 554, rfl⟩
abbrev main_v373 : Ref sig .tc := ⟨.hbm, 555, rfl⟩
abbrev main_v374 : Ref sig .tc := ⟨.hbm, 556, rfl⟩
abbrev main_c_179 : Ref sig .tc := ⟨.hbm, 557, rfl⟩
abbrev main_v375 : Ref sig .tc := ⟨.hbm, 558, rfl⟩
abbrev main_v376 : Ref sig .tc := ⟨.hbm, 559, rfl⟩
abbrev main_c_180 : Ref sig .tc := ⟨.hbm, 560, rfl⟩
abbrev main_v377 : Ref sig .tc := ⟨.hbm, 561, rfl⟩
abbrev main_v378 : Ref sig .tc := ⟨.hbm, 562, rfl⟩
abbrev main_v379 : Ref sig .tc := ⟨.hbm, 563, rfl⟩
abbrev main_v380 : Ref sig .tc := ⟨.hbm, 564, rfl⟩
abbrev main_v381 : Ref sig .tc := ⟨.hbm, 565, rfl⟩
abbrev main_v382 : Ref sig .tc := ⟨.hbm, 566, rfl⟩
abbrev main_v383 : Ref sig .tc := ⟨.hbm, 567, rfl⟩
abbrev main_cst_181 : Ref sig .tc := ⟨.hbm, 568, rfl⟩
abbrev main_v384 : Ref sig .tc := ⟨.hbm, 569, rfl⟩
abbrev main_v385 : Ref sig .tc := ⟨.hbm, 570, rfl⟩
abbrev main_c_182 : Ref sig .tc := ⟨.hbm, 571, rfl⟩
abbrev main_v386 : Ref sig .tc := ⟨.hbm, 572, rfl⟩
abbrev main_v387 : Ref sig .tc := ⟨.hbm, 573, rfl⟩
abbrev main_c_183 : Ref sig .tc := ⟨.hbm, 574, rfl⟩
abbrev main_v388 : Ref sig .tc := ⟨.hbm, 575, rfl⟩
abbrev main_v389 : Ref sig .tc := ⟨.hbm, 576, rfl⟩
abbrev main_v390 : Ref sig .tc := ⟨.hbm, 577, rfl⟩
abbrev main_c_184 : Ref sig .tc := ⟨.hbm, 578, rfl⟩
abbrev main_v391 : Ref sig .tc := ⟨.hbm, 579, rfl⟩
abbrev main_v392 : Ref sig .tc := ⟨.hbm, 580, rfl⟩
abbrev main_c_185 : Ref sig .tc := ⟨.hbm, 581, rfl⟩
abbrev main_v393 : Ref sig .tc := ⟨.hbm, 582, rfl⟩
abbrev main_v394 : Ref sig .tc := ⟨.hbm, 583, rfl⟩
abbrev main_v395 : Ref sig .tc := ⟨.hbm, 584, rfl⟩
abbrev main_v396 : Ref sig .tc := ⟨.hbm, 585, rfl⟩
abbrev main_v397 : Ref sig .tc := ⟨.hbm, 586, rfl⟩
abbrev main_v398 : Ref sig .tc := ⟨.hbm, 587, rfl⟩
abbrev main_v399 : Ref sig .tc := ⟨.hbm, 588, rfl⟩
abbrev main_cst_186 : Ref sig .tc := ⟨.hbm, 589, rfl⟩
abbrev main_v400 : Ref sig .tc := ⟨.hbm, 590, rfl⟩
abbrev main_v401 : Ref sig .tc := ⟨.hbm, 591, rfl⟩
abbrev main_c_187 : Ref sig .tc := ⟨.hbm, 592, rfl⟩
abbrev main_v402 : Ref sig .tc := ⟨.hbm, 593, rfl⟩
abbrev main_v403 : Ref sig .tc := ⟨.hbm, 594, rfl⟩
abbrev main_c_188 : Ref sig .tc := ⟨.hbm, 595, rfl⟩
abbrev main_v404 : Ref sig .tc := ⟨.hbm, 596, rfl⟩
abbrev main_v405 : Ref sig .tc := ⟨.hbm, 597, rfl⟩
abbrev main_v406 : Ref sig .tc := ⟨.hbm, 598, rfl⟩
abbrev main_c_189 : Ref sig .tc := ⟨.hbm, 599, rfl⟩
abbrev main_v407 : Ref sig .tc := ⟨.hbm, 600, rfl⟩
abbrev main_v408 : Ref sig .tc := ⟨.hbm, 601, rfl⟩
abbrev main_c_190 : Ref sig .tc := ⟨.hbm, 602, rfl⟩
abbrev main_v409 : Ref sig .tc := ⟨.hbm, 603, rfl⟩
abbrev main_v410 : Ref sig .tc := ⟨.hbm, 604, rfl⟩
abbrev main_v411 : Ref sig .tc := ⟨.hbm, 605, rfl⟩
abbrev main_v412 : Ref sig .tc := ⟨.hbm, 606, rfl⟩
abbrev main_v413 : Ref sig .tc := ⟨.hbm, 607, rfl⟩
abbrev main_v414 : Ref sig .tc := ⟨.hbm, 608, rfl⟩
abbrev main_v415 : Ref sig .tc := ⟨.hbm, 609, rfl⟩
abbrev main_cst_191 : Ref sig .tc := ⟨.hbm, 610, rfl⟩
abbrev main_v416 : Ref sig .tc := ⟨.hbm, 611, rfl⟩
abbrev main_v417 : Ref sig .tc := ⟨.hbm, 612, rfl⟩
abbrev main_c_192 : Ref sig .tc := ⟨.hbm, 613, rfl⟩
abbrev main_v418 : Ref sig .tc := ⟨.hbm, 614, rfl⟩
abbrev main_v419 : Ref sig .tc := ⟨.hbm, 615, rfl⟩
abbrev main_c_193 : Ref sig .tc := ⟨.hbm, 616, rfl⟩
abbrev main_v420 : Ref sig .tc := ⟨.hbm, 617, rfl⟩
abbrev main_v421 : Ref sig .tc := ⟨.hbm, 618, rfl⟩
abbrev main_v422 : Ref sig .tc := ⟨.hbm, 619, rfl⟩
abbrev main_c_194 : Ref sig .tc := ⟨.hbm, 620, rfl⟩
abbrev main_v423 : Ref sig .tc := ⟨.hbm, 621, rfl⟩
abbrev main_v424 : Ref sig .tc := ⟨.hbm, 622, rfl⟩
abbrev main_c_195 : Ref sig .tc := ⟨.hbm, 623, rfl⟩
abbrev main_v425 : Ref sig .tc := ⟨.hbm, 624, rfl⟩
abbrev main_v426 : Ref sig .tc := ⟨.hbm, 625, rfl⟩
abbrev main_v427 : Ref sig .tc := ⟨.hbm, 626, rfl⟩
abbrev main_v428 : Ref sig .tc := ⟨.hbm, 627, rfl⟩
abbrev main_v429 : Ref sig .tc := ⟨.hbm, 628, rfl⟩
abbrev main_v430 : Ref sig .tc := ⟨.hbm, 629, rfl⟩
abbrev main_v431 : Ref sig .tc := ⟨.hbm, 630, rfl⟩
abbrev main_cst_196 : Ref sig .tc := ⟨.hbm, 631, rfl⟩
abbrev main_v432 : Ref sig .tc := ⟨.hbm, 632, rfl⟩
abbrev main_v433 : Ref sig .tc := ⟨.hbm, 633, rfl⟩
abbrev main_c_197 : Ref sig .tc := ⟨.hbm, 634, rfl⟩
abbrev main_v434 : Ref sig .tc := ⟨.hbm, 635, rfl⟩
abbrev main_v435 : Ref sig .tc := ⟨.hbm, 636, rfl⟩
abbrev main_c_198 : Ref sig .tc := ⟨.hbm, 637, rfl⟩
abbrev main_v436 : Ref sig .tc := ⟨.hbm, 638, rfl⟩
abbrev main_v437 : Ref sig .tc := ⟨.hbm, 639, rfl⟩
abbrev main_v438 : Ref sig .tc := ⟨.hbm, 640, rfl⟩
abbrev main_c_199 : Ref sig .tc := ⟨.hbm, 641, rfl⟩
abbrev main_v439 : Ref sig .tc := ⟨.hbm, 642, rfl⟩
abbrev main_v440 : Ref sig .tc := ⟨.hbm, 643, rfl⟩
abbrev main_c_200 : Ref sig .tc := ⟨.hbm, 644, rfl⟩
abbrev main_v441 : Ref sig .tc := ⟨.hbm, 645, rfl⟩
abbrev main_v442 : Ref sig .tc := ⟨.hbm, 646, rfl⟩
abbrev main_v443 : Ref sig .tc := ⟨.hbm, 647, rfl⟩
abbrev main_v444 : Ref sig .tc := ⟨.hbm, 648, rfl⟩
abbrev main_v445 : Ref sig .tc := ⟨.hbm, 649, rfl⟩
abbrev main_v446 : Ref sig .tc := ⟨.hbm, 650, rfl⟩
abbrev main_v447 : Ref sig .tc := ⟨.hbm, 651, rfl⟩
abbrev main_cst_201 : Ref sig .tc := ⟨.hbm, 652, rfl⟩
abbrev main_v448 : Ref sig .tc := ⟨.hbm, 653, rfl⟩
abbrev main_v449 : Ref sig .tc := ⟨.hbm, 654, rfl⟩
abbrev main_c_202 : Ref sig .tc := ⟨.hbm, 655, rfl⟩
abbrev main_v450 : Ref sig .tc := ⟨.hbm, 656, rfl⟩
abbrev main_v451 : Ref sig .tc := ⟨.hbm, 657, rfl⟩
abbrev main_c_203 : Ref sig .tc := ⟨.hbm, 658, rfl⟩
abbrev main_v452 : Ref sig .tc := ⟨.hbm, 659, rfl⟩
abbrev main_v453 : Ref sig .tc := ⟨.hbm, 660, rfl⟩
abbrev main_v454 : Ref sig .tc := ⟨.hbm, 661, rfl⟩
abbrev main_c_204 : Ref sig .tc := ⟨.hbm, 662, rfl⟩
abbrev main_v455 : Ref sig .tc := ⟨.hbm, 663, rfl⟩
abbrev main_v456 : Ref sig .tc := ⟨.hbm, 664, rfl⟩
abbrev main_c_205 : Ref sig .tc := ⟨.hbm, 665, rfl⟩
abbrev main_v457 : Ref sig .tc := ⟨.hbm, 666, rfl⟩
abbrev main_v458 : Ref sig .tc := ⟨.hbm, 667, rfl⟩
abbrev main_v459 : Ref sig .tc := ⟨.hbm, 668, rfl⟩
abbrev main_v460 : Ref sig .tc := ⟨.hbm, 669, rfl⟩
abbrev main_v461 : Ref sig .tc := ⟨.hbm, 670, rfl⟩
abbrev main_v462 : Ref sig .tc := ⟨.hbm, 671, rfl⟩
abbrev main_v463 : Ref sig .tc := ⟨.hbm, 672, rfl⟩
abbrev main_cst_206 : Ref sig .tc := ⟨.hbm, 673, rfl⟩
abbrev main_v464 : Ref sig .tc := ⟨.hbm, 674, rfl⟩
abbrev main_v465 : Ref sig .tc := ⟨.hbm, 675, rfl⟩
abbrev main_c_207 : Ref sig .tc := ⟨.hbm, 676, rfl⟩
abbrev main_v466 : Ref sig .tc := ⟨.hbm, 677, rfl⟩
abbrev main_v467 : Ref sig .tc := ⟨.hbm, 678, rfl⟩
abbrev main_c_208 : Ref sig .tc := ⟨.hbm, 679, rfl⟩
abbrev main_v468 : Ref sig .tc := ⟨.hbm, 680, rfl⟩
abbrev main_v469 : Ref sig .tc := ⟨.hbm, 681, rfl⟩
abbrev main_v470 : Ref sig .tc := ⟨.hbm, 682, rfl⟩
abbrev main_c_209 : Ref sig .tc := ⟨.hbm, 683, rfl⟩
abbrev main_v471 : Ref sig .tc := ⟨.hbm, 684, rfl⟩
abbrev main_v472 : Ref sig .tc := ⟨.hbm, 685, rfl⟩
abbrev main_c_210 : Ref sig .tc := ⟨.hbm, 686, rfl⟩
abbrev main_v473 : Ref sig .tc := ⟨.hbm, 687, rfl⟩
abbrev main_v474 : Ref sig .tc := ⟨.hbm, 688, rfl⟩
abbrev main_v475 : Ref sig .tc := ⟨.hbm, 689, rfl⟩
abbrev main_v476 : Ref sig .tc := ⟨.hbm, 690, rfl⟩
abbrev main_v477 : Ref sig .tc := ⟨.hbm, 691, rfl⟩
abbrev main_v478 : Ref sig .tc := ⟨.hbm, 692, rfl⟩
abbrev main_v479 : Ref sig .tc := ⟨.hbm, 693, rfl⟩
abbrev main_cst_211 : Ref sig .tc := ⟨.hbm, 694, rfl⟩
abbrev main_v480 : Ref sig .tc := ⟨.hbm, 695, rfl⟩
abbrev main_v481 : Ref sig .tc := ⟨.hbm, 696, rfl⟩
abbrev main_c_212 : Ref sig .tc := ⟨.hbm, 697, rfl⟩
abbrev main_v482 : Ref sig .tc := ⟨.hbm, 698, rfl⟩
abbrev main_v483 : Ref sig .tc := ⟨.hbm, 699, rfl⟩
abbrev main_c_213 : Ref sig .tc := ⟨.hbm, 700, rfl⟩
abbrev main_v484 : Ref sig .tc := ⟨.hbm, 701, rfl⟩
abbrev main_v485 : Ref sig .tc := ⟨.hbm, 702, rfl⟩
abbrev main_v486 : Ref sig .tc := ⟨.hbm, 703, rfl⟩
abbrev main_c_214 : Ref sig .tc := ⟨.hbm, 704, rfl⟩
abbrev main_v487 : Ref sig .tc := ⟨.hbm, 705, rfl⟩
abbrev main_v488 : Ref sig .tc := ⟨.hbm, 706, rfl⟩
abbrev main_c_215 : Ref sig .tc := ⟨.hbm, 707, rfl⟩
abbrev main_v489 : Ref sig .tc := ⟨.hbm, 708, rfl⟩
abbrev main_v490 : Ref sig .tc := ⟨.hbm, 709, rfl⟩
abbrev main_v491 : Ref sig .tc := ⟨.hbm, 710, rfl⟩
abbrev main_v492 : Ref sig .tc := ⟨.hbm, 711, rfl⟩
abbrev main_v493 : Ref sig .tc := ⟨.hbm, 712, rfl⟩
abbrev main_v494 : Ref sig .tc := ⟨.hbm, 713, rfl⟩
abbrev main_v495 : Ref sig .tc := ⟨.hbm, 714, rfl⟩
abbrev main_cst_216 : Ref sig .tc := ⟨.hbm, 715, rfl⟩
abbrev main_v496 : Ref sig .tc := ⟨.hbm, 716, rfl⟩
abbrev main_v497 : Ref sig .tc := ⟨.hbm, 717, rfl⟩
abbrev main_c_217 : Ref sig .tc := ⟨.hbm, 718, rfl⟩
abbrev main_v498 : Ref sig .tc := ⟨.hbm, 719, rfl⟩
abbrev main_v499 : Ref sig .tc := ⟨.hbm, 720, rfl⟩
abbrev main_c_218 : Ref sig .tc := ⟨.hbm, 721, rfl⟩
abbrev main_v500 : Ref sig .tc := ⟨.hbm, 722, rfl⟩
abbrev main_v501 : Ref sig .tc := ⟨.hbm, 723, rfl⟩
abbrev main_v502 : Ref sig .tc := ⟨.hbm, 724, rfl⟩
abbrev main_c_219 : Ref sig .tc := ⟨.hbm, 725, rfl⟩
abbrev main_v503 : Ref sig .tc := ⟨.hbm, 726, rfl⟩
abbrev main_v504 : Ref sig .tc := ⟨.hbm, 727, rfl⟩
abbrev main_c_220 : Ref sig .tc := ⟨.hbm, 728, rfl⟩
abbrev main_v505 : Ref sig .tc := ⟨.hbm, 729, rfl⟩
abbrev main_v506 : Ref sig .tc := ⟨.hbm, 730, rfl⟩
abbrev main_v507 : Ref sig .tc := ⟨.hbm, 731, rfl⟩
abbrev main_v508 : Ref sig .tc := ⟨.hbm, 732, rfl⟩
abbrev main_v509 : Ref sig .tc := ⟨.hbm, 733, rfl⟩
abbrev main_v510 : Ref sig .tc := ⟨.hbm, 734, rfl⟩
abbrev main_v511 : Ref sig .tc := ⟨.hbm, 735, rfl⟩
abbrev main_v512 : Ref sig .tc := ⟨.hbm, 736, rfl⟩
abbrev main_v513 : Ref sig .tc := ⟨.hbm, 737, rfl⟩

abbrev nD : Nat := 1
abbrev τ : Topo := Topo.v7x

variable {F : FTy → Type} [FloatOps F]
-- ==== Proof.Base.lean ====
/-
  The SparseCore kernel as the launch theorem sees it, and the judgement the walk through its body is made of:
  `Runs A p B r` says that the program `p`, run by one vector subcore that holds `A`, ends holding `B` with
  the result `r`. The body is printed in parts, each a straight line of loads, maxima and stores, so the walk is
  made of a sequencing lemma and one lemma for each kind of operation.
-/
module

public import proofs.«01_k».proof.Defs
public import proofs.«01_k».proof.Proof.Gen.KernelIdeal
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Names of the launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- Ghost state: the launch handshakes' rounds, and the counters of the local copies. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The subcore and its buffers -/

abbrev cV (L : grid0.Coords) : Fin τ.nSC := (L 0).castLE hcore0
abbrev jV (L : grid0.Coords) : Fin τ.nSub := (L 1).castLE hsub0
/-- The vector subcore at grid point `L` of device `d`. -/
abbrev me (d : Dev nD) (L : grid0.Coords) : Thread nD τ := V d (cV L) (jV L)

local notation "xtM" => (Memref.whole Cert.KernelIdeal.main_v1_scv : Memref Cert.KernelIdeal.sig Kind.scVector Space.hbm Cert.KernelIdeal.S32x8x4x8x128 EltTy.f32)
local notation "zM" => (Memref.whole Cert.KernelIdeal.main_v2_scv : Memref Cert.KernelIdeal.sig Kind.scVector Space.hbm Cert.KernelIdeal.S32x8x8x16 EltTy.f32)
local notation "outM" => (Memref.whole Cert.KernelIdeal.main_v3_scv : Memref Cert.KernelIdeal.sig Kind.scVector Space.hbm Cert.KernelIdeal.S32x64x8x4x8x128 EltTy.f32)
local notation "xvM" => (Memref.whole Cert.KernelIdeal.cc0_scratch0 : Memref Cert.KernelIdeal.sig Kind.scVector Space.vmem Cert.KernelIdeal.S8x8x16 EltTy.f32)
local notation "aM" => (Memref.whole Cert.KernelIdeal.cc0_scratch1 : Memref Cert.KernelIdeal.sig Kind.scVector Space.vmem Cert.KernelIdeal.S32x8x8x16 EltTy.f32)
local notation "bM" => (Memref.whole Cert.KernelIdeal.cc0_scratch2 : Memref Cert.KernelIdeal.sig Kind.scVector Space.vmem Cert.KernelIdeal.S32x8x8x16 EltTy.f32)

variable [FloatOps F]

/-- A vector subcore's programs. -/
abbrev TileProg (F : FTy → Type) (L : grid0.Coords) (α : Type) : Type 1 :=
  Prog (TpuEff nD τ sig (Elt F) Λ₀ (.scVector (cV L) (jV L))) α

/-- From `A` the program ends with the result `r`, holding `B`. -/
def Runs (d : Dev nD) (L : grid0.Coords) {α : Type} (A : sProp 𝕄) (p : TileProg F L α) (B : sProp 𝕄) (r : α) : Prop :=
  ∀ Q : α → sProp 𝕄, iprop(A ∗ (B -∗ Q r)) ⊢ wp frame (wpE (defs₀ (F := F)) 𝒱₀ (me d L) none) Set.univ p Q

namespace Runs

variable {d : Dev nD} {L : grid0.Coords} {α β : Type}

/-- One program after the other. -/
theorem bind {A B C : sProp 𝕄} {p : TileProg F L α} {f : α → TileProg F L β} {r : α} {r' : β}
    (hp : Runs d L A p B r) (hf : Runs d L B (f r) C r') : Runs d L A (p >>= f) C r' := by
  intro Q
  rw [wp_bind]
  refine BIBase.Entails.trans ?_ (hp _)
  iintro ⟨HA, HQ⟩
  isplitl [HA]; · iexact HA
  iintro HB
  iapply (hf Q)
  isplitl [HB]; · iexact HB
  iexact HQ

/-- A result, told under any name. -/
theorem ret {A : sProp 𝕄} {a r : α} (h : a = r) : Runs d L A (Pure.pure a : TileProg F L α) A r := by
  subst h
  intro Q
  rw [wp_pure]
  iintro ⟨HA, HQ⟩
  imodintro; iapply HQ; iexact HA

/-- What a program holds may be told otherwise before and after. -/
theorem conseq {A B A' B' : sProp 𝕄} {p : TileProg F L α} {r : α} (hA : A ⊢ A') (h : Runs d L A' p B' r) (hB : B' ⊢ B) : Runs d L A p B r := by
  intro Q
  refine BIBase.Entails.trans ?_ (h Q)
  iintro ⟨HA, HQ⟩
  isplitl [HA]; · iapply hA; iexact HA
  iintro HB
  iapply HQ; iapply hB; iexact HB

/-- What a program does not touch stays. -/
theorem frame_left {A B C : sProp 𝕄} {p : TileProg F L α} {r : α} (h : Runs d L A p B r) : Runs d L iprop(C ∗ A) p iprop(C ∗ B) r := by
  intro Q
  refine BIBase.Entails.trans ?_ (h Q)
  iintro ⟨⟨HC, HA⟩, HQ⟩
  isplitl [HA]; · iexact HA
  iintro HB
  iapply HQ
  isplitl [HC]; · iexact HC
  iexact HB

end Runs

/-! ## The pyramid's windows, level by level -/

/-- Where a level is made by joining three windows of the level below, every other one left out. -/
def joins3 (l : ℕ) : Bool := l == 16 || l == 24

/-- The maximum over window `t` of level `l`, over the rows `row 0 … row 63`: level 0 is the rows; a level joins two
    neighbouring windows of the level below, levels 16 and 24 three and keep every other window. -/
def lv (row : ℕ → FVec F S16 .f32) : ℕ → ℕ → FVec F S16 .f32
  | 0, t => row t
  | l + 1, t =>
    if joins3 (l + 1) then maximumf (maximumf (lv row l (2 * t)) (lv row l (2 * t + 1))) (lv row l (2 * t + 2))
    else maximumf (lv row l t) (lv row l (t + 1))

theorem lv_two {row : ℕ → FVec F S16 .f32} {x y : FVec F S16 .f32} {l t l' t' : ℕ} (hx : x = lv row l t) (hy : y = lv row l t')
    (ht : t' = t + 1) (hl : l' = l + 1) (h : joins3 l' = false) : maximumf x y = lv row l' t := by
  subst hx hy ht hl; rw [lv, h]; rfl

theorem lv_three {row : ℕ → FVec F S16 .f32} {x y z : FVec F S16 .f32} {l t l' t1 t2 t3 : ℕ} (hx : x = lv row l t1) (hy : y = lv row l t2)
    (hz : z = lv row l t3) (h1 : t1 = 2 * t) (h2 : t2 = 2 * t + 1) (h3 : t3 = 2 * t + 2) (hl : l' = l + 1) (h : joins3 l' = true) :
    maximumf (maximumf x y) z = lv row l' t := by
  subst hx hy hz h1 h2 h3 hl; rw [lv, h]; rfl

theorem lv_zero (row : ℕ → FVec F S16 .f32) (t : ℕ) : lv row 0 t = row t := by rw [lv]

theorem lv_succ (row : ℕ → FVec F S16 .f32) (l t : ℕ) :
    lv row (l + 1) t = if joins3 (l + 1) then maximumf (maximumf (lv row l (2 * t)) (lv row l (2 * t + 1))) (lv row l (2 * t + 2))
      else maximumf (lv row l t) (lv row l (t + 1)) := by rw [lv]

attribute [irreducible] lv

end Cert.Proof.Pyramid

end
-- ==== Proof.Steps.lean ====
/-
  One operation of the walk at a time: what the two staging buffers hold after the stores up to a given window,
  and the rules for a row's load, a load whose result is not used, and the store of a window's maximum.
-/
module

public import proofs.«01_k».proof.Proof.Base
public import Idealize.ShloMosaic.Lib.Writes
public import Idealize.ShloMosaic.Lib.Pipeline.Value

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xvM" => (Memref.whole Cert.KernelIdeal.cc0_scratch0 : Memref Cert.KernelIdeal.sig Kind.scVector Space.vmem Cert.KernelIdeal.S8x8x16 EltTy.f32)
local notation "aM" => (Memref.whole Cert.KernelIdeal.cc0_scratch1 : Memref Cert.KernelIdeal.sig Kind.scVector Space.vmem Cert.KernelIdeal.S32x8x8x16 EltTy.f32)
local notation "bM" => (Memref.whole Cert.KernelIdeal.cc0_scratch2 : Memref Cert.KernelIdeal.sig Kind.scVector Space.vmem Cert.KernelIdeal.S32x8x8x16 EltTy.f32)

/-! ## Where a window goes -/

/-- How many windows a level keeps. -/
def size (l : ℕ) : ℕ := if l < 16 then 64 - l else if l < 24 then 40 - l else 32 - l

/-- The map's row and column that take window `t` of level `l`: the window's first and last position. -/
def pos (l t : ℕ) : ℕ × ℕ :=
  if l < 16 then (t, t + l) else if l < 24 then (2 * t, 2 * t + 17 + 2 * (l - 16)) else (4 * t, 4 * t + 35 + 4 * (l - 24))

/-- The window a map position takes, if it takes one. -/
def slot (i j : ℕ) : Option (ℕ × ℕ) :=
  if j < i then none
  else if j - i < 16 then some (j - i, i)
  else if j - i < 32 then (if (j - i) % 2 = 1 ∧ i % 2 = 0 ∧ 17 ≤ j - i then some (16 + (j - i - 17) / 2, i / 2) else none)
  else if (j - i) % 4 = 3 ∧ i % 4 = 0 ∧ 35 ≤ j - i ∧ j - i < 64 then some (24 + (j - i - 35) / 4, i / 4) else none

theorem slot_pos {l t : ℕ} (hl : l < 32) : slot (pos l t).1 (pos l t).2 = some (l, t) := by
  unfold pos slot
  split_ifs <;> first | omega | (simp only [Option.some.injEq, Prod.mk.injEq, and_true, true_and] at *; omega)

theorem pos_of_slot {i j l t : ℕ} (h : slot i j = some (l, t)) : pos l t = (i, j) ∧ l < 32 ∧ (j < 64 → t < size l) := by
  unfold slot at h
  split_ifs at h <;> simp only [Option.some.injEq, Prod.mk.injEq, reduceCtorEq] at h <;> obtain ⟨rfl, rfl⟩ := h <;>
    refine ⟨?_, by omega, fun hj => ?_⟩
  all_goals first | unfold pos | unfold size
  all_goals split_ifs <;> first | omega | (simp only [Prod.mk.injEq, and_true, true_and] at *; omega)

/-- The windows stored before window `t` of level `l`, level by level. -/
abbrev before (p : ℕ × ℕ) (l t : ℕ) : Prop := p.1 < l ∨ p.1 = l ∧ p.2 < t

/-- A lane as an index of a row. -/
abbrev lane (k : Fin 16) : S16.Idx := fun a => match a with | 0 => k

variable [FloatOps F]

/-- What the staging buffer of the map's rows `32 h … 32 h + 31` holds once every window before window `t` of level `l` is
    stored over `base`. -/
def cont (row : ℕ → FVec F S16 .f32) (base : S32x8x8x16.Idx → F .f32) (h l t : ℕ) : S32x8x8x16.Idx → F .f32 := fun x =>
  match slot (32 * h + (x 0).val) (8 * (x 1).val + (x 2).val) with
  | none => base x
  | some p => if before p l t then lv row p.1 p.2 (lane (x 3)) else base x

omit [FloatOps F] in
theorem col_lt (x : S32x8x8x16.Idx) : 8 * (x 1).val + (x 2).val < 64 := by
  have h1 : (x 1).val < 8 := (x 1).isLt
  have h2 : (x 2).val < 8 := (x 2).isLt
  omega

/-- Before the first window the buffer is as it was. -/
theorem cont_zero (row : ℕ → FVec F S16 .f32) (base : S32x8x8x16.Idx → F .f32) (h : ℕ) : cont row base h 0 0 = base := by
  funext x; unfold cont; split
  · rfl
  · rw [if_neg]; simp [before]

/-- After a level's last window comes the next level's first. -/
theorem cont_wrap (row : ℕ → FVec F S16 .f32) (base : S32x8x8x16.Idx → F .f32) (h l : ℕ) :
    cont row base h l (size l) = cont row base h (l + 1) 0 := by
  funext x; unfold cont; split
  · rfl
  · rename_i p hp
    have hs := pos_of_slot (l := p.1) (t := p.2) hp
    have : before p l (size l) ↔ before p (l + 1) 0 := by
      constructor
      · rintro (h | ⟨h, -⟩) <;> left <;> omega
      · rintro (h | ⟨-, h⟩)
        · rcases Nat.lt_succ_iff_lt_or_eq.mp h with h | h
          · exact .inl h
          · exact .inr ⟨h, h ▸ hs.2.2 (col_lt x)⟩
        · omega
    simp only [this]

/-- One store more: at the window's place the window's maximum, elsewhere what was there. -/
theorem cont_step (row : ℕ → FVec F S16 .f32) (base : S32x8x8x16.Idx → F .f32) (h l t : ℕ) (x : S32x8x8x16.Idx) :
    cont row base h l (t + 1) x
      = if slot (32 * h + (x 0).val) (8 * (x 1).val + (x 2).val) = some (l, t) then lv row l t (lane (x 3)) else cont row base h l t x := by
  unfold cont; split
  · rename_i hp; simp [hp]
  · rename_i p hp
    rw [hp]
    by_cases hpl : p = (l, t)
    · subst hpl; simp [before]
    · rw [if_neg (c := some p = some (l, t)) (by simpa using hpl)]
      have : before p l (t + 1) ↔ before p l t := by
        obtain ⟨a, b⟩ := p
        simp only [Prod.mk.injEq] at hpl
        simp only [before]; omega
      simp only [this]

/-! ## What a store leaves, read at a place -/

omit [FloatOps F] in
theorem shapeCast_row (w : FVec F S16 .f32) (hc : S16.ShapeCasts S1x1x1x16) (x : S1x1x1x16.Idx) :
    shapeCast S1x1x1x16 w hc x = w (lane (x 3)) := by
  refine shapeCast_apply w hc x _ ?_
  rw [Shape.rowMajor_val_one, Shape.rowMajor_val_four]
  have h0 : (x 0).val = 0 := Nat.lt_one_iff.mp (x 0).isLt
  have h1 : (x 1).val = 0 := Nat.lt_one_iff.mp (x 1).isLt
  have h2 : (x 2).val = 0 := Nat.lt_one_iff.mp (x 2).isLt
  simp [h0, h1, h2, lane]

omit [FloatOps F] in
/-- A row stored at `off` is read there lane by lane; every other place keeps what it held. -/
theorem read_store_row {κ : Kind} {sp : Space} (v : View sig κ sp S32x8x8x16 .f32) (f : v.ty.Contents (Elt F)) (w : FVec F S16 .f32)
    (hc : S16.ShapeCasts S1x1x1x16) {off : Fin 4 → ℕ} (inb : ∀ a, off a + S1x1x1x16.size a ≤ S32x8x8x16.size a) (h3 : off 3 = 0) (x : S32x8x8x16.Idx) :
    v.read (Elt F) ((v.slice (Rect.unit (s := S32x8x8x16) off S1x1x1x16.size inb)).write (Elt F) f (shapeCast S1x1x1x16 w hc) Finset.univ) x
      = if (x 0).val = off 0 ∧ (x 1).val = off 1 ∧ (x 2).val = off 2 then w (lane (x 3)) else v.read (Elt F) f x := by
  rw [← View.writes_singleton]
  split
  · rename_i hx
    refine (View.read_writes_cons_hit_of_coords v f (Rect.unit (s := S32x8x8x16) off S1x1x1x16.size inb) _ []
      (fun a => match a with | 0 => (0 : Fin 1) | 1 => (0 : Fin 1) | 2 => (0 : Fin 1) | 3 => x 3) x ?_).trans ?_
    · intro a
      match a with
      | 0 => simpa using hx.1
      | 1 => simpa using hx.2.1
      | 2 => simpa using hx.2.2
      | 3 => simp [h3]
    · rw [shapeCast_row]
  · rename_i hx
    have : ∃ a : Fin 4, (a = 0 ∨ a = 1 ∨ a = 2) ∧ (x a).val ≠ off a := by
      by_contra hn
      push Not at hn
      exact hx ⟨hn 0 (by simp), hn 1 (by simp), hn 2 (by simp)⟩
    obtain ⟨a, ha, hne⟩ := this
    refine (View.read_writes_cons_miss_of_axis v f _ [] x a (off a) 1 rfl rfl ?_ ?_).trans rfl
    · rcases ha with rfl | rfl | rfl <;> rfl
    · omega

/-! ## Rows of the fetched block -/

/-- Row `t` of a fetched block of 64 positions, lane by lane. -/
def xrow (f : S8x8x16.Idx → F .f32) (t : ℕ) : FVec F S16 .f32 := fun k =>
  f fun a => match a with
    | 0 => (⟨t / 8 % 8, Nat.mod_lt _ (by decide)⟩ : Fin 8)
    | 1 => (⟨t % 8, Nat.mod_lt _ (by decide)⟩ : Fin 8)
    | 2 => k 0

omit [FloatOps F] in
theorem xrow_eq (f : S8x8x16.Idx → F .f32) {off : Fin 3 → ℕ} (inb : ∀ a, off a + S1x1x16.size a ≤ S8x8x16.size a) (hc : S1x1x16.ShapeCasts S16)
    (t : ℕ) (h0 : off 0 = t / 8) (h1 : off 1 = t % 8) (h2 : off 2 = 0) :
    shapeCast S16 ((xvM).view.readAt (Elt F) (Rect.unit (s := S8x8x16) off S1x1x16.size inb).toLoadRect f) hc = xrow f t := by
  funext k
  refine (shapeCast_apply _ hc k (fun a => match a with | 0 => (0 : Fin 1) | 1 => (0 : Fin 1) | 2 => k 0) ?_).trans ?_
  · rw [Shape.rowMajor_val_one, Shape.rowMajor_val_three]; simp
  · have hi := inb 0
    rw [h0] at hi
    change _ + 1 ≤ 8 at hi
    show f _ = f _
    congr 1; funext a; apply Fin.ext
    match a with
    | 0 => show off 0 + 1 * 0 = t / 8 % 8; omega
    | 1 => show off 1 + 1 * 0 = t % 8; omega
    | 2 => show off 2 + 1 * (k 0).val = (k 0).val; omega

/-! ## The rules -/

variable (d : Dev nD) (L : grid0.Coords)

/-- The fetched block. -/
abbrev XS (f : S8x8x16.Idx → F .f32) : sProp 𝕄 := (xvM).view.loc (me d L) ↦{fullShare} f

/-- The two staging buffers, at given contents. -/
abbrev AB (f g : S32x8x8x16.Idx → F .f32) : sProp 𝕄 :=
  iprop(((aM).view.loc (me d L) ↦{fullShare} f) ∗ (bM).view.loc (me d L) ↦{fullShare} g)

/-- The two staging buffers once every window before window `t` of level `l` is stored. -/
def St (row : ℕ → FVec F S16 .f32) (ba bb : S32x8x8x16.Idx → F .f32) (l t : ℕ) : sProp 𝕄 :=
  AB d L (cont row ba 0 l t) (cont row bb 1 l t)

variable {d L}

theorem load_x {C : sProp 𝕄} {f : S8x8x16.Idx → F .f32} {r : LoadRect S8x8x16} {hl : (xvM).view.LoadsAt r} :
    Runs d L iprop(C ∗ XS d L f) (Prog.lift (.load xvM r hl)) iprop(C ∗ XS d L f) ((xvM).view.readAt (Elt F) r f) := by
  apply Runs.frame_left
  intro Q
  iintro ⟨H, HQ⟩
  iapply (wp_load (defs := defs₀ (F := F)) 𝒱₀ (me d L) none Set.univ (m := xvM) (r := r) (hl := hl) (S := Finset.univ) (Finset.subset_univ _)) $$ H
  iintro H
  rw [wp_ret]
  imodintro
  iapply HQ; iexact H

theorem load_a {C : sProp 𝕄} {row : ℕ → FVec F S16 .f32} {ba bb : S32x8x8x16.Idx → F .f32} {l t : ℕ} {r : LoadRect S32x8x8x16} {hl : (aM).view.LoadsAt r} :
    Runs d L iprop(C ∗ St d L row ba bb l t) (Prog.lift (.load aM r hl)) iprop(C ∗ St d L row ba bb l t) ((aM).view.readAt (Elt F) r (cont row ba 0 l t)) := by
  apply Runs.frame_left
  unfold St
  intro Q
  iintro ⟨⟨H, Hb⟩, HQ⟩
  iapply (wp_load (defs := defs₀ (F := F)) 𝒱₀ (me d L) none Set.univ (m := aM) (r := r) (hl := hl) (S := Finset.univ) (Finset.subset_univ _)) $$ H
  iintro H
  rw [wp_ret]
  imodintro
  iapply HQ; isplitl [H]; · iexact H
  iexact Hb

theorem load_b {C : sProp 𝕄} {row : ℕ → FVec F S16 .f32} {ba bb : S32x8x8x16.Idx → F .f32} {l t : ℕ} {r : LoadRect S32x8x8x16} {hl : (bM).view.LoadsAt r} :
    Runs d L iprop(C ∗ St d L row ba bb l t) (Prog.lift (.load bM r hl)) iprop(C ∗ St d L row ba bb l t) ((bM).view.readAt (Elt F) r (cont row bb 1 l t)) := by
  apply Runs.frame_left
  unfold St
  intro Q
  iintro ⟨⟨Ha, H⟩, HQ⟩
  iapply (wp_load (defs := defs₀ (F := F)) 𝒱₀ (me d L) none Set.univ (m := bM) (r := r) (hl := hl) (S := Finset.univ) (Finset.subset_univ _)) $$ H
  iintro H
  rw [wp_ret]
  imodintro
  iapply HQ; isplitl [Ha]; · iexact Ha
  iexact H

/-- The contents a store of window `t` of level `l` leaves, in the buffer that takes it. -/
theorem cont_store (row : ℕ → FVec F S16 .f32) (base : S32x8x8x16.Idx → F .f32) (h l t : ℕ) {off : Fin 4 → ℕ}
    (hl : l < 32) (ho : pos l t = (32 * h + off 0, 8 * off 1 + off 2)) (h2 : off 2 < 8) (x : S32x8x8x16.Idx) :
    cont row base h l (t + 1) x = if (x 0).val = off 0 ∧ (x 1).val = off 1 ∧ (x 2).val = off 2 then lv row l t (lane (x 3)) else cont row base h l t x := by
  rw [cont_step]
  have h2' : (x 2).val < 8 := (x 2).isLt
  have : slot (32 * h + (x 0).val) (8 * (x 1).val + (x 2).val) = some (l, t) ↔ (x 0).val = off 0 ∧ (x 1).val = off 1 ∧ (x 2).val = off 2 := by
    constructor
    · intro hs
      have hp := (pos_of_slot hs).1
      rw [ho, Prod.mk.injEq] at hp
      omega
    · rintro ⟨e0, e1, e2⟩
      have hs := slot_pos (t := t) hl
      rw [ho] at hs
      rw [e0, e1, e2]; exact hs
  simp only [this]

/-- A buffer that does not take the window keeps its contents. -/
theorem cont_other (row : ℕ → FVec F S16 .f32) (base : S32x8x8x16.Idx → F .f32) (h l t : ℕ) (ho : (pos l t).1 / 32 ≠ h) :
    cont row base h l (t + 1) = cont row base h l t := by
  funext x
  rw [cont_step, if_neg]
  intro hs
  have hp := (pos_of_slot hs).1
  have h0 : (x 0).val < 32 := (x 0).isLt
  rw [hp] at ho
  omega

/-- The window after window `t` of level `l`. -/
def next (l t : ℕ) : ℕ × ℕ := if t + 1 = size l then (l + 1, 0) else (l, t + 1)

theorem cont_next (row : ℕ → FVec F S16 .f32) (base : S32x8x8x16.Idx → F .f32) (h l t : ℕ) :
    cont row base h (next l t).1 (next l t).2 = cont row base h l (t + 1) := by
  unfold next; split
  · rename_i e; rw [e, cont_wrap]
  · rfl

/-- The place of window `t` of level `l` is row `i` of the staging buffer of rows `32 h …`, column `8 j + k`. -/
def fits (h l t i j k z : ℕ) : Bool :=
  decide (l < 32) && decide (pos l t = (32 * h + i, 8 * j + k)) && decide (i < 32) && decide (k < 8) && decide (z = 0)

theorem fits_iff {h l t i j k z : ℕ} (hf : fits h l t i j k z = true) :
    l < 32 ∧ pos l t = (32 * h + i, 8 * j + k) ∧ i < 32 ∧ k < 8 ∧ z = 0 := by
  simpa [fits, and_assoc] using hf

/-- `v` is the maximum over window `t` of level `l`. -/
def IsLv (v : FVec F S16 .f32) (row : ℕ → FVec F S16 .f32) (l t : ℕ) : Prop := v = lv row l t

theorem store_a {C : sProp 𝕄} {row : ℕ → FVec F S16 .f32} {ba bb : S32x8x8x16.Idx → F .f32} {l t : ℕ} {off : Fin 4 → ℕ}
    {inb : ∀ a, off a + S1x1x1x16.size a ≤ S32x8x8x16.size a} {v : FVec F S16 .f32} {hc : S16.ShapeCasts S1x1x1x16}
    {hx : ((aM).access (Rect.unit (s := S32x8x8x16) off S1x1x1x16.size inb)).Stores Finset.univ} {hm} {l' t' : ℕ}
    (hf : fits 0 l t (off 0) (off 1) (off 2) (off 3) = true) (hl : (next l t).1 = l') (ht : (next l t).2 = t') (hv : IsLv v row l t) :
    Runs d L iprop(C ∗ St d L row ba bb l t)
      (Prog.lift (.store aM (Rect.unit (s := S32x8x8x16) off S1x1x1x16.size inb) (shapeCast S1x1x1x16 v hc) Finset.univ hx hm))
      iprop(C ∗ St d L row ba bb l' t') ⟨⟩ := by
  obtain ⟨h1, h2, h3, h4, h5⟩ := fits_iff hf
  apply Runs.frame_left
  unfold St
  rw [← hl, ← ht, cont_next, cont_next, cont_other row bb 1 l t (by rw [h2]; dsimp only; omega)]
  rw [show cont row ba 0 l (t + 1) = ((aM).access (Rect.unit (s := S32x8x8x16) off S1x1x1x16.size inb)).write (Elt F) (cont row ba 0 l t)
      (shapeCast S1x1x1x16 v hc) Finset.univ from by
    funext x
    rw [cont_store row ba 0 l t h1 h2 h4 x]
    refine Eq.trans ?_ (read_store_row (aM).view (cont row ba 0 l t) v hc inb h5 x).symm
    rw [show v = _ from hv]; rfl]
  intro Q
  iintro ⟨⟨H, Hb⟩, HQ⟩
  iapply (wp_store (defs := defs₀ (F := F)) 𝒱₀ (me d L) none Set.univ (m := aM) (hx := hx) (hm := hm) (S := Finset.univ) (Finset.subset_univ _)) $$ H
  iintro H
  rw [wp_ret]
  imodintro
  iapply HQ; isplitl [H]; · iexact H
  iexact Hb

theorem store_b {C : sProp 𝕄} {row : ℕ → FVec F S16 .f32} {ba bb : S32x8x8x16.Idx → F .f32} {l t : ℕ} {off : Fin 4 → ℕ}
    {inb : ∀ a, off a + S1x1x1x16.size a ≤ S32x8x8x16.size a} {v : FVec F S16 .f32} {hc : S16.ShapeCasts S1x1x1x16}
    {hx : ((bM).access (Rect.unit (s := S32x8x8x16) off S1x1x1x16.size inb)).Stores Finset.univ} {hm} {l' t' : ℕ}
    (hf : fits 1 l t (off 0) (off 1) (off 2) (off 3) = true) (hl : (next l t).1 = l') (ht : (next l t).2 = t') (hv : IsLv v row l t) :
    Runs d L iprop(C ∗ St d L row ba bb l t)
      (Prog.lift (.store bM (Rect.unit (s := S32x8x8x16) off S1x1x1x16.size inb) (shapeCast S1x1x1x16 v hc) Finset.univ hx hm))
      iprop(C ∗ St d L row ba bb l' t') ⟨⟩ := by
  obtain ⟨h1, h2, h3, h4, h5⟩ := fits_iff hf
  apply Runs.frame_left
  unfold St
  rw [← hl, ← ht, cont_next, cont_next, cont_other row ba 0 l t (by rw [h2]; dsimp only; omega)]
  rw [show cont row bb 1 l (t + 1) = ((bM).access (Rect.unit (s := S32x8x8x16) off S1x1x1x16.size inb)).write (Elt F) (cont row bb 1 l t)
      (shapeCast S1x1x1x16 v hc) Finset.univ from by
    funext x
    rw [cont_store row bb 1 l t h1 h2 h4 x]
    refine Eq.trans ?_ (read_store_row (bM).view (cont row bb 1 l t) v hc inb h5 x).symm
    rw [show v = _ from hv]; rfl]
  intro Q
  iintro ⟨⟨Ha, H⟩, HQ⟩
  iapply (wp_store (defs := defs₀ (F := F)) 𝒱₀ (me d L) none Set.univ (m := bM) (hx := hx) (hm := hm) (S := Finset.univ) (Finset.subset_univ _)) $$ H
  iintro H
  rw [wp_ret]
  imodintro
  iapply HQ; isplitl [Ha]; · iexact Ha
  iexact H

/-! ## Telling the values apart -/

namespace IsLv

variable {row : ℕ → FVec F S16 .f32} {x y z : FVec F S16 .f32} {l t : ℕ}

theorem here : IsLv (lv row l t) row l t := rfl

theorem two (h : joins3 (l + 1) = false) (hx : IsLv x row l t) (hy : IsLv y row l (t + 1)) : IsLv (maximumf x y) row (l + 1) t :=
  lv_two hx hy rfl rfl h

theorem three (h : joins3 (l + 1) = true) (hx : IsLv x row l (2 * t)) (hy : IsLv y row l (2 * t + 1)) (hz : IsLv z row l (2 * t + 2)) :
    IsLv (maximumf (maximumf x y) z) row (l + 1) t :=
  lv_three hx hy hz rfl rfl rfl rfl h

theorem ofRow {f : S8x8x16.Idx → F .f32} {off : Fin 3 → ℕ} {inb : ∀ a, off a + S1x1x16.size a ≤ S8x8x16.size a} {hc : S1x1x16.ShapeCasts S16}
    (h0 : off 0 = t / 8) (h1 : off 1 = t % 8) (h2 : off 2 = 0) :
    IsLv (shapeCast S16 ((xvM).view.readAt (Elt F) (Rect.unit (s := S8x8x16) off S1x1x16.size inb).toLoadRect f) hc) (xrow f) 0 t :=
  (xrow_eq f inb hc t h0 h1 h2).trans (lv_zero _ _).symm

end IsLv

/-- `a` is `b`, `b` the form the walk goes on with. -/
def Norm {α : Type} (a b : α) : Prop := a = b

namespace Norm

theorem refl {α : Type} {a : α} : Norm a a := rfl

theorem pair {α β : Type} {a a' : α} {b b' : β} (ha : Norm a a') (hb : Norm b b') :
    Norm (⟨a, b⟩ : Σ' (_ : α), β) ⟨a', b'⟩ := by cases ha; cases hb; rfl

variable {row : ℕ → FVec F S16 .f32} {x y z : FVec F S16 .f32} {l l' t t' t1 t2 t3 : ℕ}

theorem two (hx : Norm x (lv row l t)) (hy : Norm y (lv row l t')) (ht : t' = t + 1) (hl : l + 1 = l') (h : joins3 l' = false) :
    Norm (maximumf x y) (lv row l' t) := lv_two hx hy ht hl.symm h

theorem three (hx : Norm x (lv row l t1)) (hy : Norm y (lv row l t2)) (hz : Norm z (lv row l t3)) (ht : t1 / 2 = t)
    (h1 : t1 = 2 * t) (h2 : t2 = t1 + 1) (h3 : t3 = t1 + 2)
    (hl : l + 1 = l') (h : joins3 l' = true) : Norm (maximumf (maximumf x y) z) (lv row l' t) :=
  lv_three hx hy hz h1 (by omega) (by omega) hl.symm h

theorem ofRow {f : S8x8x16.Idx → F .f32} {off : Fin 3 → ℕ} {inb : ∀ a, off a + S1x1x16.size a ≤ S8x8x16.size a} {hc : S1x1x16.ShapeCasts S16}
    (ht : 8 * off 0 + off 1 = t) (h1 : decide (off 1 < 8) && decide (off 2 = 0) = true) :
    Norm (shapeCast S16 ((xvM).view.readAt (Elt F) (Rect.unit (s := S8x8x16) off S1x1x16.size inb).toLoadRect f) hc) (lv (xrow f) 0 t) := by
  simp only [Bool.and_eq_true, decide_eq_true_eq] at h1
  exact (xrow_eq f inb hc t (by omega) (by omega) h1.2).trans (lv_zero _ _).symm

end Norm

theorem Runs.done {A : sProp 𝕄} {α : Type} {a r : α} (h : Norm a r) : Runs d L A (Pure.pure a : TileProg F L α) A r := Runs.ret h

end Cert.Proof.Pyramid

end
-- ==== Proof.Moves.lean ====
module

public import proofs.«01_k».proof.Proof.Steps
public import Idealize.ShloMosaic.Lib.Writes
public import Idealize.ShloMosaic.Lib.Pipeline.Value

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xtM" => (Memref.whole Cert.KernelIdeal.main_v1_scv : Memref Cert.KernelIdeal.sig Kind.scVector Space.hbm Cert.KernelIdeal.S32x8x4x8x128 EltTy.f32)
local notation "zM" => (Memref.whole Cert.KernelIdeal.main_v2_scv : Memref Cert.KernelIdeal.sig Kind.scVector Space.hbm Cert.KernelIdeal.S32x8x8x16 EltTy.f32)
local notation "outM" => (Memref.whole Cert.KernelIdeal.main_v3_scv : Memref Cert.KernelIdeal.sig Kind.scVector Space.hbm Cert.KernelIdeal.S32x64x8x4x8x128 EltTy.f32)
local notation "xvM" => (Memref.whole Cert.KernelIdeal.cc0_scratch0 : Memref Cert.KernelIdeal.sig Kind.scVector Space.vmem Cert.KernelIdeal.S8x8x16 EltTy.f32)
local notation "aM" => (Memref.whole Cert.KernelIdeal.cc0_scratch1 : Memref Cert.KernelIdeal.sig Kind.scVector Space.vmem Cert.KernelIdeal.S32x8x8x16 EltTy.f32)
local notation "bM" => (Memref.whole Cert.KernelIdeal.cc0_scratch2 : Memref Cert.KernelIdeal.sig Kind.scVector Space.vmem Cert.KernelIdeal.S32x8x8x16 EltTy.f32)

variable [FloatOps F] (d : Dev nD) (L : grid0.Coords)

/-! ## The body's copies and waits -/

/-- Unit `t`'s rows in HBM: eight by eight by sixteen numbers. -/
abbrev xAt (off : Fin 5 → ℕ) (inb : ∀ a, off a + S1x8x1x8x16.size a ≤ S32x8x4x8x128.size a) : Memref sig .scVector .hbm S8x8x16 .f32 :=
  ((xtM).slice (Rect.unit (s := S32x8x4x8x128) off S1x8x1x8x16.size inb) (fun _ => rfl)).squeeze S8x8x16 squeezes_S1x8x1x8x16_S8x8x16

/-- Half of unit `t`'s stamp in HBM: 32 rows of 64 columns of sixteen numbers. -/
abbrev outAt (off : Fin 6 → ℕ) (inb : ∀ a, off a + S1x32x8x1x8x16.size a ≤ S32x64x8x4x8x128.size a) : Memref sig .scVector .hbm S32x8x8x16 .f32 :=
  ((outM).slice (Rect.unit (s := S32x64x8x4x8x128) off S1x32x8x1x8x16.size inb) (fun _ => rfl)).squeeze S32x8x8x16 squeezes_S1x32x8x1x8x16_S32x8x8x16

abbrev zeroA : TileProg F L PUnit :=
  Prog.lift (.enqueueDma zM (.here aM) (.dma cc0_scratch6.sem) (Memref.isWhole_whole _).wordExact (Memref.isWhole_whole _).wordExact ⟨Or.inl rfl, trivial⟩)
abbrev zeroB : TileProg F L PUnit :=
  Prog.lift (.enqueueDma zM (.here bM) (.dma cc0_scratch7.sem) (Memref.isWhole_whole _).wordExact (Memref.isWhole_whole _).wordExact ⟨Or.inl rfl, trivial⟩)
abbrev fetch (off : Fin 5 → ℕ) (inb : ∀ a, off a + S1x8x1x8x16.size a ≤ S32x8x4x8x128.size a) : TileProg F L PUnit :=
  Prog.lift (.enqueueDma (xAt off inb) (.here xvM) (.dma cc0_scratch5.sem) ((View.wordExact_bits rfl).reshape _ _) (Memref.isWhole_whole _).wordExact ⟨Or.inl rfl, trivial⟩)
abbrev fetched (off : Fin 5 → ℕ) (inb : ∀ a, off a + S1x8x1x8x16.size a ≤ S32x8x4x8x128.size a) : TileProg F L PUnit :=
  Prog.lift (.waitDma2 cc0_scratch5.sem (xAt off inb) xvM ((View.wordExact_bits rfl).reshape _ _) (Memref.isWhole_whole _).wordExact)
abbrev sendA (off : Fin 6 → ℕ) (inb : ∀ a, off a + S1x32x8x1x8x16.size a ≤ S32x64x8x4x8x128.size a) : TileProg F L PUnit :=
  Prog.lift (.enqueueDma aM (.here (outAt off inb)) (.dma cc0_scratch3.sem) (Memref.isWhole_whole _).wordExact ((View.wordExact_bits rfl).reshape _ _) ⟨Or.inl rfl, trivial⟩)
abbrev sendB (off : Fin 6 → ℕ) (inb : ∀ a, off a + S1x32x8x1x8x16.size a ≤ S32x64x8x4x8x128.size a) : TileProg F L PUnit :=
  Prog.lift (.enqueueDma bM (.here (outAt off inb)) (.dma cc0_scratch4.sem) (Memref.isWhole_whole _).wordExact ((View.wordExact_bits rfl).reshape _ _) ⟨Or.inl rfl, trivial⟩)
abbrev sentA (off : Fin 6 → ℕ) (inb : ∀ a, off a + S1x32x8x1x8x16.size a ≤ S32x64x8x4x8x128.size a) : TileProg F L PUnit :=
  Prog.lift (.waitDma2 cc0_scratch3.sem aM (outAt off inb) (Memref.isWhole_whole _).wordExact ((View.wordExact_bits rfl).reshape _ _))
abbrev sentB (off : Fin 6 → ℕ) (inb : ∀ a, off a + S1x32x8x1x8x16.size a ≤ S32x64x8x4x8x128.size a) : TileProg F L PUnit :=
  Prog.lift (.waitDma2 cc0_scratch4.sem bM (outAt off inb) (Memref.isWhole_whole _).wordExact ((View.wordExact_bits rfl).reshape _ _))

/-- The start of trip `t`: the wait for the unit's rows, and row 0. -/
abbrev tripHead (t : Fin k0_t1_loop.trips) : TileProg F L (Σ' (_ : BitVec 32) (_ : Vec F S16 .f32), BitVec 32) :=
  k0_part2 L xtM (Memref.isWhole_whole _) zM (Memref.isWhole_whole _) outM (Memref.isWhole_whole _) xvM (Memref.isWhole_whole _) aM (Memref.isWhole_whole _) bM (Memref.isWhole_whole _)
    cc0_scratch3 cc0_scratch4 cc0_scratch5 cc0_scratch6 cc0_scratch7 0#32 1#32 t

/-- The middle of trip `t`: the next unit's rows are asked for, the staging buffers waited for, and rows 0, 1, 2 stored. -/
abbrev tripMid (t : Fin k0_t1_loop.trips) (iv : BitVec 32) (r0 r1 r2 : Vec F S16 .f32) (j1 j2 : BitVec 32) (j3 j4 j5 : BitVec 1) :
    TileProg F L (Σ' (_ : BitVec 32) (_ : BitVec 32), BitVec 32) :=
  k0_part11 L xtM (Memref.isWhole_whole _) zM (Memref.isWhole_whole _) outM (Memref.isWhole_whole _) xvM (Memref.isWhole_whole _) aM (Memref.isWhole_whole _) bM (Memref.isWhole_whole _)
    cc0_scratch3 cc0_scratch4 cc0_scratch5 cc0_scratch6 cc0_scratch7 t iv r0 r1 r2 j1 j2 j3 j4 j5

end Cert.Proof.Pyramid

end
-- ==== Proof.Places.lean ====
module

public import proofs.«01_k».proof.Proof.Moves
public import Idealize.ShloMosaic.Lib.ValueIdxRank6
public import Idealize.ShloMosaic.Lib.Writes
public import Idealize.ShloMosaic.Lib.Pipeline.Value

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xtM" => (Memref.whole Cert.KernelIdeal.main_v1_scv : Memref Cert.KernelIdeal.sig Kind.scVector Space.hbm Cert.KernelIdeal.S32x8x4x8x128 EltTy.f32)
local notation "zM" => (Memref.whole Cert.KernelIdeal.main_v2_scv : Memref Cert.KernelIdeal.sig Kind.scVector Space.hbm Cert.KernelIdeal.S32x8x8x16 EltTy.f32)
local notation "outM" => (Memref.whole Cert.KernelIdeal.main_v3_scv : Memref Cert.KernelIdeal.sig Kind.scVector Space.hbm Cert.KernelIdeal.S32x64x8x4x8x128 EltTy.f32)
local notation "xvM" => (Memref.whole Cert.KernelIdeal.cc0_scratch0 : Memref Cert.KernelIdeal.sig Kind.scVector Space.vmem Cert.KernelIdeal.S8x8x16 EltTy.f32)
local notation "aM" => (Memref.whole Cert.KernelIdeal.cc0_scratch1 : Memref Cert.KernelIdeal.sig Kind.scVector Space.vmem Cert.KernelIdeal.S32x8x8x16 EltTy.f32)
local notation "bM" => (Memref.whole Cert.KernelIdeal.cc0_scratch2 : Memref Cert.KernelIdeal.sig Kind.scVector Space.vmem Cert.KernelIdeal.S32x8x8x16 EltTy.f32)

variable [FloatOps F] (d : Dev nD) (L : grid0.Coords)

/-! ## Which elements a copy moves -/

omit [FloatOps F] in
/-- Element `j` of a unit's rows, where it lies in HBM. -/
theorem xAt_emb (off : Fin 5 → ℕ) (inb : ∀ a, off a + S1x8x1x8x16.size a ≤ S32x8x4x8x128.size a) (j : S8x8x16.Idx) (a : Fin 5) :
    ((xAt off inb).view.emb j a).val = off a + (match a with | 0 => 0 | 1 => (j 0).val | 2 => 0 | 3 => (j 1).val | 4 => (j 2).val) := by
  have e : Shape.reshapeEquiv (squeezes_S1x8x1x8x16_S8x8x16).numel_eq j
      = (fun a => match a with | 0 => (0 : Fin 1) | 1 => j 0 | 2 => (0 : Fin 1) | 3 => j 1 | 4 => j 2 : S1x8x1x8x16.Idx) :=
    Shape.reshapeEquiv_eq_of_rowMajor _ (by
      rw [Shape.rowMajor_val_five, Shape.rowMajor_val_three]
      simp)
  show ((Rect.unit (s := S32x8x4x8x128) off S1x8x1x8x16.size inb).emb (Shape.reshapeEquiv (squeezes_S1x8x1x8x16_S8x8x16).numel_eq j) a).val = _
  rw [e]
  match a with
  | 0 => show off 0 + 1 * 0 = off 0 + 0; omega
  | 1 => show off 1 + 1 * (j 0).val = off 1 + (j 0).val; omega
  | 2 => show off 2 + 1 * 0 = off 2 + 0; omega
  | 3 => show off 3 + 1 * (j 1).val = off 3 + (j 1).val; omega
  | 4 => show off 4 + 1 * (j 2).val = off 4 + (j 2).val; omega

omit [FloatOps F] in
/-- Element `j` of half a stamp, where it lies in HBM. -/
theorem outAt_emb (off : Fin 6 → ℕ) (inb : ∀ a, off a + S1x32x8x1x8x16.size a ≤ S32x64x8x4x8x128.size a) (j : S32x8x8x16.Idx) (a : Fin 6) :
    ((outAt off inb).view.emb j a).val
      = off a + (match a with | 0 => 0 | 1 => (j 0).val | 2 => (j 1).val | 3 => 0 | 4 => (j 2).val | 5 => (j 3).val) := by
  have e : Shape.reshapeEquiv (squeezes_S1x32x8x1x8x16_S32x8x8x16).numel_eq j
      = (fun a => match a with | 0 => (0 : Fin 1) | 1 => j 0 | 2 => j 1 | 3 => (0 : Fin 1) | 4 => j 2 | 5 => j 3 : S1x32x8x1x8x16.Idx) :=
    Shape.reshapeEquiv_eq_of_rowMajor _ (by
      rw [Shape.rowMajor_val_six, Shape.rowMajor_val_four]
      simp)
  show ((Rect.unit (s := S32x64x8x4x8x128) off S1x32x8x1x8x16.size inb).emb (Shape.reshapeEquiv (squeezes_S1x32x8x1x8x16_S32x8x8x16).numel_eq j) a).val = _
  rw [e]
  match a with
  | 0 => show off 0 + 1 * 0 = off 0 + 0; omega
  | 1 => show off 1 + 1 * (j 0).val = off 1 + (j 0).val; omega
  | 2 => show off 2 + 1 * (j 1).val = off 2 + (j 1).val; omega
  | 3 => show off 3 + 1 * 0 = off 3 + 0; omega
  | 4 => show off 4 + 1 * (j 2).val = off 4 + (j 2).val; omega
  | 5 => show off 5 + 1 * (j 3).val = off 5 + (j 3).val; omega

/-- Where unit `u` of batch `b` starts in the transposed input. -/
abbrev xOff (b u : ℕ) : Fin 5 → ℕ := ![b, 0, u / 8, 0, 16 * (u % 8)]
/-- Where half `h` of the stamp of unit `u` of batch `b` starts in the output. -/
abbrev oOff (b h u : ℕ) : Fin 6 → ℕ := ![b, 32 * h, 0, u / 8, 0, 16 * (u % 8)]

/-- The batch of the tile at grid point `L`. -/
abbrev bOf (L : grid0.Coords) : ℕ := 2 * (L 1).val + (L 0).val

/-- The input's elements that unit `u` of batch `b` reads. -/
def xSet (b u : ℕ) : Finset S32x8x4x8x128.Idx := Finset.univ.filter fun x => (x 0).val = b ∧ (x 2).val = u / 8 ∧ (x 4).val / 16 = u % 8
/-- The output's elements of half `h` of the stamp of unit `u` of batch `b`. -/
def oSet (b h u : ℕ) : Finset S32x64x8x4x8x128.Idx :=
  Finset.univ.filter fun x => (x 0).val = b ∧ (x 1).val / 32 = h ∧ (x 3).val = u / 8 ∧ (x 5).val / 16 = u % 8
/-- The output's elements of batch `b`. -/
def bSet (b : ℕ) : Finset S32x64x8x4x8x128.Idx := Finset.univ.filter fun x => (x 0).val = b

omit [FloatOps F] in
theorem xAt_set {b u : ℕ} {off : Fin 5 → ℕ} (h : off = xOff b u) (inb : ∀ a, off a + S1x8x1x8x16.size a ≤ S32x8x4x8x128.size a) :
    (xAt off inb).view.set = xSet b u := by
  subst h
  refine (((View.set_reshape _ _).trans (View.set_slice_whole main_v1_scv _) :
    (xAt (xOff b u) inb).view.set = (Rect.unit (s := S32x8x4x8x128) (xOff b u) S1x8x1x8x16.size inb).set)).trans ?_
  ext x
  rw [Rect.mem_set_unit]
  unfold xSet
  simp only [Finset.mem_filter, Finset.mem_univ, _root_.true_and]
  have h1 : (x 1).val < 8 := (x 1).isLt
  have h3 : (x 3).val < 8 := (x 3).isLt
  constructor
  · intro ha
    have a0 := ha 0; have a2 := ha 2; have a4 := ha 4
    change b ≤ (x 0).val ∧ (x 0).val < b + 1 at a0
    change u / 8 ≤ (x 2).val ∧ (x 2).val < u / 8 + 1 at a2
    change 16 * (u % 8) ≤ (x 4).val ∧ (x 4).val < 16 * (u % 8) + 16 at a4
    omega
  · rintro ⟨e0, e2, e4⟩ a
    match a with
    | 0 => show b ≤ (x 0).val ∧ (x 0).val < b + 1; omega
    | 1 => show 0 ≤ (x 1).val ∧ (x 1).val < 0 + 8; omega
    | 2 => show u / 8 ≤ (x 2).val ∧ (x 2).val < u / 8 + 1; omega
    | 3 => show 0 ≤ (x 3).val ∧ (x 3).val < 0 + 8; omega
    | 4 => show 16 * (u % 8) ≤ (x 4).val ∧ (x 4).val < 16 * (u % 8) + 16; omega

omit [FloatOps F] in
theorem outAt_set {b h u : ℕ} {off : Fin 6 → ℕ} (e : off = oOff b h u) (inb : ∀ a, off a + S1x32x8x1x8x16.size a ≤ S32x64x8x4x8x128.size a) :
    (outAt off inb).view.set = oSet b h u := by
  subst e
  refine (((View.set_reshape _ _).trans (View.set_slice_whole main_v3_scv _) :
    (outAt (oOff b h u) inb).view.set = (Rect.unit (s := S32x64x8x4x8x128) (oOff b h u) S1x32x8x1x8x16.size inb).set)).trans ?_
  ext x
  rw [Rect.mem_set_unit]
  unfold oSet
  simp only [Finset.mem_filter, Finset.mem_univ, _root_.true_and]
  have h2 : (x 2).val < 8 := (x 2).isLt
  have h4 : (x 4).val < 8 := (x 4).isLt
  constructor
  · intro ha
    have a0 := ha 0; have a1 := ha 1; have a3 := ha 3; have a5 := ha 5
    change b ≤ (x 0).val ∧ (x 0).val < b + 1 at a0
    change 32 * h ≤ (x 1).val ∧ (x 1).val < 32 * h + 32 at a1
    change u / 8 ≤ (x 3).val ∧ (x 3).val < u / 8 + 1 at a3
    change 16 * (u % 8) ≤ (x 5).val ∧ (x 5).val < 16 * (u % 8) + 16 at a5
    omega
  · rintro ⟨e0, e1, e3, e5⟩ a
    match a with
    | 0 => show b ≤ (x 0).val ∧ (x 0).val < b + 1; omega
    | 1 => show 32 * h ≤ (x 1).val ∧ (x 1).val < 32 * h + 32; omega
    | 2 => show 0 ≤ (x 2).val ∧ (x 2).val < 0 + 8; omega
    | 3 => show u / 8 ≤ (x 3).val ∧ (x 3).val < u / 8 + 1; omega
    | 4 => show 0 ≤ (x 4).val ∧ (x 4).val < 0 + 8; omega
    | 5 => show 16 * (u % 8) ≤ (x 5).val ∧ (x 5).val < 16 * (u % 8) + 16; omega

/-! ## The offsets, in closed form -/

omit [FloatOps F] in
theorem off2_eq : ∀ (L : grid0.Coords) (t : Fin k0_t1_loop.trips), k0_off2 L t = xOff (bOf L) t.val := by decide +kernel
omit [FloatOps F] in
theorem off3_eq : ∀ (L : grid0.Coords) (t : Fin k0_t1_loop.trips), k0_off3 L t = xOff (bOf L) (min (t.val + 1) 31) := by decide +kernel
omit [FloatOps F] in
/-- The staging buffers are waited for from the second trip on. -/
theorem cond2_iff : ∀ t : Fin k0_t1_loop.trips, k0_cond2 t = 1#1 ↔ t.val ≠ 0 := by decide +kernel
omit [FloatOps F] in
theorem off4_eq : ∀ (L : grid0.Coords) (t : Fin k0_t1_loop.trips), t.val ≠ 0 → k0_off4 L t = oOff (bOf L) 0 (t.val - 1) := by decide +kernel
omit [FloatOps F] in
theorem off5_eq : ∀ (L : grid0.Coords) (t : Fin k0_t1_loop.trips), t.val ≠ 0 → k0_off5 L t = oOff (bOf L) 1 (t.val - 1) := by decide +kernel
omit [FloatOps F] in
theorem off6_eq : ∀ (L : grid0.Coords) (t : Fin k0_t1_loop.trips), k0_off6 L t = oOff (bOf L) 0 t.val := by decide +kernel
omit [FloatOps F] in
theorem off7_eq : ∀ (L : grid0.Coords) (t : Fin k0_t1_loop.trips), k0_off7 L t = oOff (bOf L) 1 t.val := by decide +kernel

end Cert.Proof.Pyramid

end
-- ==== Proof.Copies.lean ====
module

public import proofs.«01_k».proof.Proof.Places

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xtM" => (Memref.whole Cert.KernelIdeal.main_v1_scv : Memref Cert.KernelIdeal.sig Kind.scVector Space.hbm Cert.KernelIdeal.S32x8x4x8x128 EltTy.f32)
local notation "zM" => (Memref.whole Cert.KernelIdeal.main_v2_scv : Memref Cert.KernelIdeal.sig Kind.scVector Space.hbm Cert.KernelIdeal.S32x8x8x16 EltTy.f32)
local notation "outM" => (Memref.whole Cert.KernelIdeal.main_v3_scv : Memref Cert.KernelIdeal.sig Kind.scVector Space.hbm Cert.KernelIdeal.S32x64x8x4x8x128 EltTy.f32)
local notation "xvM" => (Memref.whole Cert.KernelIdeal.cc0_scratch0 : Memref Cert.KernelIdeal.sig Kind.scVector Space.vmem Cert.KernelIdeal.S8x8x16 EltTy.f32)
local notation "aM" => (Memref.whole Cert.KernelIdeal.cc0_scratch1 : Memref Cert.KernelIdeal.sig Kind.scVector Space.vmem Cert.KernelIdeal.S32x8x8x16 EltTy.f32)
local notation "bM" => (Memref.whole Cert.KernelIdeal.cc0_scratch2 : Memref Cert.KernelIdeal.sig Kind.scVector Space.vmem Cert.KernelIdeal.S32x8x8x16 EltTy.f32)

variable [FloatOps F] {d : Dev nD} {L : grid0.Coords}

/-! ## A copy on a semaphore of the tile's own, and its wait -/

section Copies

variable {sp sp' : Space} {s : Shape} {src : Memref sig .scVector sp s .f32} {dst : Memref sig .scVector sp' s .f32} {sem : DmaSem sig}
  {hsrc : src.view.WordExact} {hdst : dst.view.WordExact} {O : CellTallies nD τ sig (HIx 1)} {W : Waits sig (HIx 1)}

/-- What the tile still owes, and the evidence that it may wait: unchanged but for the waits recorded. -/
def OW (d : Dev nD) (L : grid0.Coords) (O : CellTallies nD τ sig (HIx 1)) (W : Waits sig (HIx 1)) : sProp 𝕄 :=
  iprop(Transfers.MayWaits (me d L) (default : HIx 1) O ∗ ∃ W', ⌜∀ p ∈ W', p ∈ W ∨ p.2 = none⌝ ∗ owes (me d L) O W')

/-- A copy of the tile's own under way on semaphore `sem`, to deliver `D`. -/
abbrev Fly (d : Dev nD) (L : grid0.Coords) (sem : DmaSem sig) (N : ℕ) (D : sProp 𝕄) : sProp 𝕄 :=
  Transfers.Flight countersEmb (me d L) (.dma sem) (default : HIx 1) N D

/-- A copy is started from its source's elements, its destination's and the semaphore at zero. -/
theorem Runs.issue {C D : sProp 𝕄} {hok : DmaTarget.Typed (nD := nD) (p := (me d L).2) sp (.dma sem) (DmaTarget.here (p := (me d L).2) dst)} {q : PosShare TreeShare} {fs : Buf (Elt F) (src.view.loc (me d L))}
    {fd : Buf (Elt F) (dst.view.loc (me d L))} (N : ℕ) (hN : dst.view.dmaCredit = N) (hs : 0 < s.numel)
    (hD : iprop((dst.view.loc (me d L) ↦[dst.view.set]{fullShare} (dst.view.write (Elt F) fd (src.view.read (Elt F) fs) Finset.univ))
      ∗ (src.view.loc (me d L) ↦[src.view.set]{q} fs)) ⊢ D) :
    Runs d L iprop(C ∗ (src.view.loc (me d L) ↦[src.view.set]{q} fs) ∗ (dst.view.loc (me d L) ↦[dst.view.set]{fullShare} fd) ∗ semVal (me d L, .dma sem) 0)
      (Prog.lift (.enqueueDma src (.here dst) (.dma sem) hsrc hdst hok)) iprop(C ∗ Fly d L sem N D) ⟨⟩ := by
  apply Runs.frame_left
  intro Q
  iintro ⟨H, HQ⟩
  iapply (Transfers.wp_dmaLocal countersEmb 𝒱₀ (me d L) none (src := src) (dst := dst) (sm := .dma sem) (via := .same) (default : HIx 1) N hN (hN ▸ View.dmaCredit_pos _ hs) (Finset.Subset.refl _)) $$ H
  iintro Hf
  rw [wp_ret]
  imodintro
  iapply HQ
  iapply (Transfers.Flight_mono countersEmb (me d L) hD); iexact Hf

/-- Its wait brings what it delivers, and the semaphore at zero. -/
theorem Runs.await {C D : sProp 𝕄} {N : ℕ} (hN : dst.view.dmaCredit = N) :
    Runs d L iprop(C ∗ OW d L O W ∗ Fly d L sem N D) (Prog.lift (.waitDma2 sem src dst hsrc hdst))
      iprop(C ∗ OW d L O W ∗ D ∗ semVal (me d L, .dma sem) 0) ⟨⟩ := by
  apply Runs.frame_left
  unfold OW
  intro Q
  iintro ⟨⟨⟨#Hmw, %W', %hW', HO⟩, Hf⟩, HQ⟩
  iapply (Transfers.wp_waitLocalO countersEmb 𝒱₀ (me d L) none (srcw := src) (dstw := dst) (default : HIx 1) hN) $$ [Hf HO]
  · isplitl [Hf]; · iexact Hf
    isplitl [HO]; · iexact HO
    iapply (Transfers.MayWaits.elim (SemLoc.dma sem)) $$ Hmw
  iintro ⟨HD, Hs, HO⟩
  rw [wp_ret]
  imodintro
  iapply HQ
  isplitl [HO]
  · isplitr; · iexact Hmw
    iexists _; isplitr
    swap; · iexact HO
    ipureintro; intro p hp
    rcases Finset.mem_insert.mp hp with hp | hp
    · exact .inr (hp ▸ rfl)
    · exact hW' p hp
  isplitl [HD] <;> iassumption

end Copies

end Cert.Proof.Pyramid

end
-- ==== Proof.Contents.lean ====
module

public import proofs.«01_k».proof.Proof.Places

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xtM" => (Memref.whole Cert.KernelIdeal.main_v1_scv : Memref Cert.KernelIdeal.sig Kind.scVector Space.hbm Cert.KernelIdeal.S32x8x4x8x128 EltTy.f32)
local notation "zM" => (Memref.whole Cert.KernelIdeal.main_v2_scv : Memref Cert.KernelIdeal.sig Kind.scVector Space.hbm Cert.KernelIdeal.S32x8x8x16 EltTy.f32)
local notation "outM" => (Memref.whole Cert.KernelIdeal.main_v3_scv : Memref Cert.KernelIdeal.sig Kind.scVector Space.hbm Cert.KernelIdeal.S32x64x8x4x8x128 EltTy.f32)
local notation "xvM" => (Memref.whole Cert.KernelIdeal.cc0_scratch0 : Memref Cert.KernelIdeal.sig Kind.scVector Space.vmem Cert.KernelIdeal.S8x8x16 EltTy.f32)
local notation "aM" => (Memref.whole Cert.KernelIdeal.cc0_scratch1 : Memref Cert.KernelIdeal.sig Kind.scVector Space.vmem Cert.KernelIdeal.S32x8x8x16 EltTy.f32)
local notation "bM" => (Memref.whole Cert.KernelIdeal.cc0_scratch2 : Memref Cert.KernelIdeal.sig Kind.scVector Space.vmem Cert.KernelIdeal.S32x8x8x16 EltTy.f32)

variable [FloatOps F]

/-! ## What the copies bring -/

/-- The rows of unit `u` of batch `b`, as they lie in the fetched block. -/
def xblk (xf : S32x8x4x8x128.Idx → F .f32) (b u : ℕ) : S8x8x16.Idx → F .f32 := fun j =>
  xf fun a => match a with
    | 0 => (⟨b % 32, Nat.mod_lt _ (by decide)⟩ : Fin 32)
    | 1 => j 0
    | 2 => (⟨u / 8 % 4, Nat.mod_lt _ (by decide)⟩ : Fin 4)
    | 3 => j 1
    | 4 => (⟨(16 * (u % 8) + (j 2).val) % 128, Nat.mod_lt _ (by decide)⟩ : Fin 128)

/-- The unit that an element of the output belongs to. -/
def unitOf (x : S32x64x8x4x8x128.Idx) : ℕ := 8 * (x 3).val + (x 5).val / 16

/-- The place in a staging buffer that an element of the output comes from. -/
def placeOf (x : S32x64x8x4x8x128.Idx) : S32x8x8x16.Idx := fun a => match a with
  | 0 => (⟨(x 1).val % 32, Nat.mod_lt _ (by decide)⟩ : Fin 32)
  | 1 => x 2
  | 2 => x 4
  | 3 => (⟨(x 5).val % 16, Nat.mod_lt _ (by decide)⟩ : Fin 16)

/-- The finished output: every unit's stamp over `zf`. -/
def stamped (xf : S32x8x4x8x128.Idx → F .f32) (zf : S32x8x8x16.Idx → F .f32) : S32x64x8x4x8x128.Idx → F .f32 := fun x =>
  cont (xrow (xblk xf (x 0).val (unitOf x))) zf ((x 1).val / 32) 32 0 (placeOf x)

/-- The output with the stamps of the units below `n` written over `o`. -/
def upTo (xf : S32x8x4x8x128.Idx → F .f32) (zf : S32x8x8x16.Idx → F .f32) (o : S32x64x8x4x8x128.Idx → F .f32) (n : ℕ) :
    S32x64x8x4x8x128.Idx → F .f32 := fun x => if unitOf x < n then stamped xf zf x else o x

/-- A whole stamp hides the stamp before. -/
theorem cont_over (row row' : ℕ → FVec F S16 .f32) (zf : S32x8x8x16.Idx → F .f32) (h : ℕ) :
    cont row (cont row' zf h 32 0) h 32 0 = cont row zf h 32 0 := by
  funext x; unfold cont; split
  · rfl
  · rename_i p hp
    have := (pos_of_slot (l := p.1) (t := p.2) hp).2.1
    rw [if_pos (Or.inl this), if_pos (Or.inl this)]

omit [FloatOps F] in
theorem read_xAt {b u : ℕ} {off : Fin 5 → ℕ} (h : off = xOff b u) (inb : ∀ a, off a + S1x8x1x8x16.size a ≤ S32x8x4x8x128.size a)
    (xf : S32x8x4x8x128.Idx → F .f32) : (xAt off inb).view.read (Elt F) xf = xblk xf b u := by
  subst h
  funext j
  have i0 := inb 0; have i2 := inb 2; have i4 := inb 4
  change b + 1 ≤ 32 at i0
  change u / 8 + 1 ≤ 4 at i2
  change 16 * (u % 8) + 16 ≤ 128 at i4
  have j2 : (j 2).val < 16 := (j 2).isLt
  show xf ((xAt (xOff b u) inb).view.emb j) = xf _
  congr 1; funext a; apply Fin.ext
  rw [xAt_emb]
  match a with
  | 0 => show b + 0 = b % 32; omega
  | 1 => show 0 + (j 0).val = (j 0).val; omega
  | 2 => show u / 8 + 0 = u / 8 % 4; omega
  | 3 => show 0 + (j 1).val = (j 1).val; omega
  | 4 => show 16 * (u % 8) + (j 2).val = (16 * (u % 8) + (j 2).val) % 128; omega

/-- Half a stamp sent out: there the output is finished. -/
theorem write_outAt {b h u : ℕ} {off : Fin 6 → ℕ} (e : off = oOff b h u) (inb : ∀ a, off a + S1x32x8x1x8x16.size a ≤ S32x64x8x4x8x128.size a)
    (xf : S32x8x4x8x128.Idx → F .f32) (zf : S32x8x8x16.Idx → F .f32) (o g : S32x64x8x4x8x128.Idx → F .f32) :
    ∀ x ∈ oSet b h u, (outAt off inb).view.write (Elt F) g (cont (xrow (xblk xf b u)) zf h 32 0) Finset.univ x = upTo xf zf o (u + 1) x := by
  subst e
  intro x hx
  unfold oSet at hx
  simp only [Finset.mem_filter, Finset.mem_univ, _root_.true_and] at hx
  obtain ⟨e0, e1, e3, e5⟩ := hx
  have hu : unitOf x = u := by unfold unitOf; omega
  have hp : (outAt (oOff b h u) inb).view.emb (placeOf x) = x := by
    funext a; apply Fin.ext
    rw [outAt_emb]
    match a with
    | 0 => show b + 0 = (x 0).val; omega
    | 1 => show 32 * h + (x 1).val % 32 = (x 1).val; omega
    | 2 => show 0 + (x 2).val = (x 2).val; omega
    | 3 => show u / 8 + 0 = (x 3).val; omega
    | 4 => show 0 + (x 4).val = (x 4).val; omega
    | 5 => show 16 * (u % 8) + (x 5).val % 16 = (x 5).val; omega
  have := View.write_emb_of_mem (Val := Elt F) (v := (outAt (oOff b h u) inb).view) g (cont (xrow (xblk xf b u)) zf h 32 0) (Finset.mem_univ (placeOf x))
  rw [hp] at this
  rw [this]
  unfold upTo stamped
  rw [if_pos (by omega), hu, e0, e1]
  rfl

/-- Off a unit, one unit more makes no difference. -/
theorem upTo_succ_off (b : ℕ) (xf : S32x8x4x8x128.Idx → F .f32) (zf : S32x8x8x16.Idx → F .f32) (o : S32x64x8x4x8x128.Idx → F .f32) (u : ℕ) :
    ∀ x ∈ bSet b \ (oSet b 0 u ∪ oSet b 1 u), upTo xf zf o u x = upTo xf zf o (u + 1) x := by
  intro x hx
  unfold bSet oSet at hx
  simp only [Finset.mem_sdiff, Finset.mem_union, Finset.mem_filter, Finset.mem_univ, _root_.true_and] at hx
  have h1 : (x 1).val < 64 := (x 1).isLt
  have h5 : (x 5).val < 128 := (x 5).isLt
  have : unitOf x ≠ u := by unfold unitOf; omega
  unfold upTo
  by_cases hl : unitOf x < u
  · rw [if_pos hl, if_pos (by omega)]
  · rw [if_neg hl, if_neg (by omega)]

omit [FloatOps F] in
theorem oSet_sub (b h u : ℕ) : oSet b h u ⊆ bSet b := by
  intro x hx
  unfold oSet at hx; unfold bSet
  simp only [Finset.mem_filter, Finset.mem_univ, _root_.true_and] at hx ⊢
  exact hx.1

omit [FloatOps F] in
theorem oSet_disjoint (b u : ℕ) : Disjoint (oSet b 0 u) (oSet b 1 u) := by
  rw [Finset.disjoint_left]
  intro x hx hy
  unfold oSet at hx hy
  simp only [Finset.mem_filter, Finset.mem_univ, _root_.true_and] at hx hy
  omega

end Cert.Proof.Pyramid

end
-- ==== Proof.Held.lean ====
module

public import proofs.«01_k».proof.Proof.Copies
public import proofs.«01_k».proof.Proof.Contents

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xtM" => (Memref.whole Cert.KernelIdeal.main_v1_scv : Memref Cert.KernelIdeal.sig Kind.scVector Space.hbm Cert.KernelIdeal.S32x8x4x8x128 EltTy.f32)
local notation "zM" => (Memref.whole Cert.KernelIdeal.main_v2_scv : Memref Cert.KernelIdeal.sig Kind.scVector Space.hbm Cert.KernelIdeal.S32x8x8x16 EltTy.f32)
local notation "outM" => (Memref.whole Cert.KernelIdeal.main_v3_scv : Memref Cert.KernelIdeal.sig Kind.scVector Space.hbm Cert.KernelIdeal.S32x64x8x4x8x128 EltTy.f32)
local notation "xvM" => (Memref.whole Cert.KernelIdeal.cc0_scratch0 : Memref Cert.KernelIdeal.sig Kind.scVector Space.vmem Cert.KernelIdeal.S8x8x16 EltTy.f32)
local notation "aM" => (Memref.whole Cert.KernelIdeal.cc0_scratch1 : Memref Cert.KernelIdeal.sig Kind.scVector Space.vmem Cert.KernelIdeal.S32x8x8x16 EltTy.f32)
local notation "bM" => (Memref.whole Cert.KernelIdeal.cc0_scratch2 : Memref Cert.KernelIdeal.sig Kind.scVector Space.vmem Cert.KernelIdeal.S32x8x8x16 EltTy.f32)

variable [FloatOps F] {d : Dev nD} {L : grid0.Coords}

/-! ## What the tile holds -/

/-- Row-block `u` of the tile's batch, and the rest of the input. -/
def XR (d : Dev nD) (L : grid0.Coords) (q : PosShare TreeShare) (xf : S32x8x4x8x128.Idx → F .f32) (u : ℕ) : sProp 𝕄 :=
  (xtM).view.loc (me d L) ↦[xSet (bOf L) u]{q} xf
def XO (d : Dev nD) (L : grid0.Coords) (q : PosShare TreeShare) (xf : S32x8x4x8x128.Idx → F .f32) (u : ℕ) : sProp 𝕄 :=
  (xtM).view.loc (me d L) ↦[Finset.univ \ xSet (bOf L) u]{q} xf
/-- The whole input. -/
def XW (d : Dev nD) (L : grid0.Coords) (q : PosShare TreeShare) (xf : S32x8x4x8x128.Idx → F .f32) : sProp 𝕄 :=
  (xtM).view.loc (me d L) ↦{q} xf
/-- The zeros. -/
def ZP (d : Dev nD) (L : grid0.Coords) (q : PosShare TreeShare) (zf : S32x8x8x16.Idx → F .f32) : sProp 𝕄 :=
  (zM).view.loc (me d L) ↦{q} zf
/-- Some of the output's elements. -/
def OP (d : Dev nD) (L : grid0.Coords) (R : Finset S32x64x8x4x8x128.Idx) (o : S32x64x8x4x8x128.Idx → F .f32) : sProp 𝕄 :=
  (outM).view.loc (me d L) ↦[R]{fullShare} o
/-- The two staging buffers, one by one. -/
def AP (d : Dev nD) (L : grid0.Coords) (f : S32x8x8x16.Idx → F .f32) : sProp 𝕄 := (aM).view.loc (me d L) ↦{fullShare} f
def BP (d : Dev nD) (L : grid0.Coords) (f : S32x8x8x16.Idx → F .f32) : sProp 𝕄 := (bM).view.loc (me d L) ↦{fullShare} f
/-- A semaphore of the tile at zero. -/
def SV (d : Dev nD) (L : grid0.Coords) (s : DmaSem sig) : sProp 𝕄 := semVal (me d L, .dma s) 0

theorem XW_split (q : PosShare TreeShare) (xf : S32x8x4x8x128.Idx → F .f32) (u : ℕ) : XW d L q xf ⊣⊢ iprop(XR d L q xf u ∗ XO d L q xf u) := by
  unfold XW XR XO
  exact pointsTo_split_subset (Finset.subset_univ _)

/-- The credits of the three kinds of copy. -/
abbrev NX : ℕ := (xvM).view.dmaCredit
abbrev NA : ℕ := (aM).view.dmaCredit
abbrev NB : ℕ := (bM).view.dmaCredit
abbrev NO : ℕ := (outAt ![0, 0, 0, 0, 0, 0] (by decide)).view.dmaCredit

/-- The rows of unit `u` on their way. -/
def FX (d : Dev nD) (L : grid0.Coords) (q : PosShare TreeShare) (xf : S32x8x4x8x128.Idx → F .f32) (u : ℕ) : sProp 𝕄 :=
  Fly d L cc0_scratch5.sem NX iprop(XS d L (xblk xf (bOf L) u) ∗ XR d L q xf u)
/-- The zeros on their way to the staging buffers. -/
def FZA (d : Dev nD) (L : grid0.Coords) (q : PosShare TreeShare) (zf : S32x8x8x16.Idx → F .f32) : sProp 𝕄 :=
  Fly d L cc0_scratch6.sem NA iprop(AP d L zf ∗ ZP d L q zf)
def FZB (d : Dev nD) (L : grid0.Coords) (q : PosShare TreeShare) (zf : S32x8x8x16.Idx → F .f32) : sProp 𝕄 :=
  Fly d L cc0_scratch7.sem NB iprop(BP d L zf ∗ ZP d L q zf)
/-- The halves of the stamp of unit `u` on their way out. -/
def FOA (d : Dev nD) (L : grid0.Coords) (xf : S32x8x4x8x128.Idx → F .f32) (zf : S32x8x8x16.Idx → F .f32) (o : S32x64x8x4x8x128.Idx → F .f32) (u : ℕ) : sProp 𝕄 :=
  Fly d L cc0_scratch3.sem NO iprop(OP d L (oSet (bOf L) 0 u) (upTo xf zf o (u + 1)) ∗ AP d L (cont (xrow (xblk xf (bOf L) u)) zf 0 32 0))
def FOB (d : Dev nD) (L : grid0.Coords) (xf : S32x8x4x8x128.Idx → F .f32) (zf : S32x8x8x16.Idx → F .f32) (o : S32x64x8x4x8x128.Idx → F .f32) (u : ℕ) : sProp 𝕄 :=
  Fly d L cc0_scratch4.sem NO iprop(OP d L (oSet (bOf L) 1 u) (upTo xf zf o (u + 1)) ∗ BP d L (cont (xrow (xblk xf (bOf L) u)) zf 1 32 0))

/-! ## The copies, told by what the tile holds -/

section Copies

variable {q z1 z2 : PosShare TreeShare} {xf : S32x8x4x8x128.Idx → F .f32} {zf ya yb : S32x8x8x16.Idx → F .f32} {o : S32x64x8x4x8x128.Idx → F .f32}
  {O : CellTallies nD τ sig (HIx 1)} {W : Waits sig (HIx 1)}

theorem zeroA_runs {C : sProp 𝕄} : Runs d L iprop(C ∗ ZP d L z1 zf ∗ AP d L ya ∗ SV d L cc0_scratch6.sem) (zeroA L) iprop(C ∗ FZA d L z1 zf) ⟨⟩ := by
  refine Runs.conseq ?_ (Runs.issue (C := C) (D := iprop(AP d L zf ∗ ZP d L z1 zf)) (src := zM) (dst := aM) (q := z1) (fs := zf) (fd := ya) NA rfl (by decide) ?_) ?_
  · unfold ZP AP SV; rw [View.set_whole, View.set_whole]
  · unfold ZP AP; rw [View.set_whole, View.set_whole, View.read_whole, View.write_whole_univ]
  · unfold FZA; exact .rfl

theorem zeroB_runs {C : sProp 𝕄} : Runs d L iprop(C ∗ ZP d L z2 zf ∗ BP d L yb ∗ SV d L cc0_scratch7.sem) (zeroB L) iprop(C ∗ FZB d L z2 zf) ⟨⟩ := by
  refine Runs.conseq ?_ (Runs.issue (C := C) (D := iprop(BP d L zf ∗ ZP d L z2 zf)) (src := zM) (dst := bM) (q := z2) (fs := zf) (fd := yb) NB rfl (by decide) ?_) ?_
  · unfold ZP BP SV; rw [View.set_whole, View.set_whole]
  · unfold ZP BP; rw [View.set_whole, View.set_whole, View.read_whole, View.write_whole_univ]
  · unfold FZB; exact .rfl

theorem fetch_runs {C : sProp 𝕄} {g : S8x8x16.Idx → F .f32} {u : ℕ} {off : Fin 5 → ℕ} (h : off = xOff (bOf L) u) (inb : ∀ a, off a + S1x8x1x8x16.size a ≤ S32x8x4x8x128.size a) :
    Runs d L iprop(C ∗ XR d L q xf u ∗ XS d L g ∗ SV d L cc0_scratch5.sem) (fetch L off inb) iprop(C ∗ FX d L q xf u) ⟨⟩ := by
  refine Runs.conseq ?_ (Runs.issue (C := C) (D := iprop(XS d L (xblk xf (bOf L) u) ∗ XR d L q xf u)) (src := xAt off inb) (dst := xvM) (q := q) (fs := xf) (fd := g) NX rfl (by decide) ?_) ?_
  · unfold XR SV; rw [xAt_set h inb, View.set_whole]
  · unfold XR; rw [read_xAt h inb, xAt_set h inb, View.set_whole, View.write_whole_univ]
  · unfold FX; exact .rfl

theorem fetched_runs {C : sProp 𝕄} {u : ℕ} {off : Fin 5 → ℕ} (inb : ∀ a, off a + S1x8x1x8x16.size a ≤ S32x8x4x8x128.size a) :
    Runs d L iprop(C ∗ OW d L O W ∗ FX d L q xf u) (fetched L off inb)
      iprop(C ∗ OW d L O W ∗ (XS d L (xblk xf (bOf L) u) ∗ XR d L q xf u) ∗ SV d L cc0_scratch5.sem) ⟨⟩ := by
  unfold FX SV
  exact Runs.await (dst := xvM) rfl

theorem sendA_runs {C : sProp 𝕄} {u : ℕ} {off : Fin 6 → ℕ} (e : off = oOff (bOf L) 0 u) (inb : ∀ a, off a + S1x32x8x1x8x16.size a ≤ S32x64x8x4x8x128.size a) :
    Runs d L iprop(C ∗ AP d L (cont (xrow (xblk xf (bOf L) u)) zf 0 32 0) ∗ OP d L (oSet (bOf L) 0 u) (upTo xf zf o u) ∗ SV d L cc0_scratch3.sem) (sendA L off inb)
      iprop(C ∗ FOA d L xf zf o u) ⟨⟩ := by
  refine Runs.conseq ?_ (Runs.issue (C := C) (D := iprop(OP d L (oSet (bOf L) 0 u) (upTo xf zf o (u + 1)) ∗ AP d L (cont (xrow (xblk xf (bOf L) u)) zf 0 32 0)))
    (src := aM) (dst := outAt off inb) (q := fullShare) (fs := cont (xrow (xblk xf (bOf L) u)) zf 0 32 0) (fd := upTo xf zf o u) NO rfl (by decide) ?_) ?_
  · unfold AP OP SV; rw [outAt_set e inb, View.set_whole]
  · unfold AP OP; rw [View.read_whole, outAt_set e inb, View.set_whole, pointsTo_congr (write_outAt e inb xf zf o _)]
  · unfold FOA; exact .rfl

theorem sendB_runs {C : sProp 𝕄} {u : ℕ} {off : Fin 6 → ℕ} (e : off = oOff (bOf L) 1 u) (inb : ∀ a, off a + S1x32x8x1x8x16.size a ≤ S32x64x8x4x8x128.size a) :
    Runs d L iprop(C ∗ BP d L (cont (xrow (xblk xf (bOf L) u)) zf 1 32 0) ∗ OP d L (oSet (bOf L) 1 u) (upTo xf zf o u) ∗ SV d L cc0_scratch4.sem) (sendB L off inb)
      iprop(C ∗ FOB d L xf zf o u) ⟨⟩ := by
  refine Runs.conseq ?_ (Runs.issue (C := C) (D := iprop(OP d L (oSet (bOf L) 1 u) (upTo xf zf o (u + 1)) ∗ BP d L (cont (xrow (xblk xf (bOf L) u)) zf 1 32 0)))
    (src := bM) (dst := outAt off inb) (q := fullShare) (fs := cont (xrow (xblk xf (bOf L) u)) zf 1 32 0) (fd := upTo xf zf o u) NO rfl (by decide) ?_) ?_
  · unfold BP OP SV; rw [outAt_set e inb, View.set_whole]
  · unfold BP OP; rw [View.read_whole, outAt_set e inb, View.set_whole, pointsTo_congr (write_outAt e inb xf zf o _)]
  · unfold FOB; exact .rfl

theorem sentA_runs {C : sProp 𝕄} {u : ℕ} {off : Fin 6 → ℕ} (inb : ∀ a, off a + S1x32x8x1x8x16.size a ≤ S32x64x8x4x8x128.size a) :
    Runs d L iprop(C ∗ OW d L O W ∗ FOA d L xf zf o u) (sentA L off inb)
      iprop(C ∗ OW d L O W ∗ (OP d L (oSet (bOf L) 0 u) (upTo xf zf o (u + 1)) ∗ AP d L (cont (xrow (xblk xf (bOf L) u)) zf 0 32 0)) ∗ SV d L cc0_scratch3.sem) ⟨⟩ := by
  unfold FOA SV
  exact Runs.await (dst := outAt off inb) rfl

theorem sentB_runs {C : sProp 𝕄} {u : ℕ} {off : Fin 6 → ℕ} (inb : ∀ a, off a + S1x32x8x1x8x16.size a ≤ S32x64x8x4x8x128.size a) :
    Runs d L iprop(C ∗ OW d L O W ∗ FOB d L xf zf o u) (sentB L off inb)
      iprop(C ∗ OW d L O W ∗ (OP d L (oSet (bOf L) 1 u) (upTo xf zf o (u + 1)) ∗ BP d L (cont (xrow (xblk xf (bOf L) u)) zf 1 32 0)) ∗ SV d L cc0_scratch4.sem) ⟨⟩ := by
  unfold FOB SV
  exact Runs.await (dst := outAt off inb) rfl

theorem zeroedA_runs {C : sProp 𝕄} {h1 : (zM).view.WordExact} {h2 : (aM).view.WordExact} :
    Runs d L iprop(C ∗ OW d L O W ∗ FZA d L z1 zf) (Prog.lift (.waitDma2 cc0_scratch6.sem zM aM h1 h2))
      iprop(C ∗ OW d L O W ∗ (AP d L zf ∗ ZP d L z1 zf) ∗ SV d L cc0_scratch6.sem) ⟨⟩ := by
  unfold FZA SV
  exact Runs.await (dst := aM) rfl

theorem zeroedB_runs {C : sProp 𝕄} {h1 : (zM).view.WordExact} {h2 : (bM).view.WordExact} :
    Runs d L iprop(C ∗ OW d L O W ∗ FZB d L z2 zf) (Prog.lift (.waitDma2 cc0_scratch7.sem zM bM h1 h2))
      iprop(C ∗ OW d L O W ∗ (BP d L zf ∗ ZP d L z2 zf) ∗ SV d L cc0_scratch7.sem) ⟨⟩ := by
  unfold FZB SV
  exact Runs.await (dst := bM) rfl

end Copies

end Cert.Proof.Pyramid

end
-- ==== Proof.Trip.lean ====
module

public import proofs.«01_k».proof.Proof.Held

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xtM" => (Memref.whole Cert.KernelIdeal.main_v1_scv : Memref Cert.KernelIdeal.sig Kind.scVector Space.hbm Cert.KernelIdeal.S32x8x4x8x128 EltTy.f32)
local notation "zM" => (Memref.whole Cert.KernelIdeal.main_v2_scv : Memref Cert.KernelIdeal.sig Kind.scVector Space.hbm Cert.KernelIdeal.S32x8x8x16 EltTy.f32)
local notation "outM" => (Memref.whole Cert.KernelIdeal.main_v3_scv : Memref Cert.KernelIdeal.sig Kind.scVector Space.hbm Cert.KernelIdeal.S32x64x8x4x8x128 EltTy.f32)
local notation "xvM" => (Memref.whole Cert.KernelIdeal.cc0_scratch0 : Memref Cert.KernelIdeal.sig Kind.scVector Space.vmem Cert.KernelIdeal.S8x8x16 EltTy.f32)
local notation "aM" => (Memref.whole Cert.KernelIdeal.cc0_scratch1 : Memref Cert.KernelIdeal.sig Kind.scVector Space.vmem Cert.KernelIdeal.S32x8x8x16 EltTy.f32)
local notation "bM" => (Memref.whole Cert.KernelIdeal.cc0_scratch2 : Memref Cert.KernelIdeal.sig Kind.scVector Space.vmem Cert.KernelIdeal.S32x8x8x16 EltTy.f32)

variable [FloatOps F] {d : Dev nD} {L : grid0.Coords}

/-! ## Reordering what is held -/

theorem eqv {P Q : sProp 𝕄} (h : P ⊣⊢ Q) : P = Q := equiv_iff.mp ⟨h.1, h.2⟩

instance : Std.Commutative (BIBase.sep : sProp 𝕄 → sProp 𝕄 → sProp 𝕄) := ⟨fun _ _ => eqv BI.Laws.sep_comm⟩
instance : Std.Associative (BIBase.sep : sProp 𝕄 → sProp 𝕄 → sProp 𝕄) := ⟨fun _ _ _ => eqv BI.Laws.sep_assoc⟩

theorem ent {P Q : sProp 𝕄} (h : P = Q) : P ⊢ Q := h ▸ .rfl

theorem Runs.pos {α : Type} {c : Prop} [Decidable c] {A B : sProp 𝕄} {p : c → TileProg F L α} {q : ¬c → TileProg F L α} {r : α} (h : c)
    (hp : Runs d L A (p h) B r) : Runs d L A (dite c p q) B r := by rw [dif_pos h]; exact hp

theorem Runs.neg {α : Type} {c : Prop} [Decidable c] {A B : sProp 𝕄} {p : c → TileProg F L α} {q : ¬c → TileProg F L α} {r : α} (h : ¬c)
    (hq : Runs d L A (q h) B r) : Runs d L A (dite c p q) B r := by rw [dif_neg h]; exact hq

/-- A step told in another order. -/
theorem Runs.step {α : Type} {A A' B B' : sProp 𝕄} {p : TileProg F L α} {r : α} (h : Runs d L A p B r) (hA : A' = A) (hB : B = B') : Runs d L A' p B' r := by
  subst hA hB; exact h

/-! ## The loop's invariant -/

theorem trips_eq : k0_t1_loop.trips = 32 := by decide +kernel

/-- The loop's counter. -/
def ivN (n : ℕ) : BitVec 32 := Scf.iv 0#32 1#32 n

theorem first_iff : ∀ t : Fin k0_t1_loop.trips,
    Scalar.cmpi .ne (Scalar.extui (Scalar.cmpi .eq (ivN t.val) 0#32) : BitVec 32) 0#32 = 1#1 ↔ t.val = 0 := by decide +kernel

section Tile

variable (d L) (q z1 z2 : PosShare TreeShare) (xf : S32x8x4x8x128.Idx → F .f32) (zf : S32x8x8x16.Idx → F .f32) (o : S32x64x8x4x8x128.Idx → F .f32)
  (O : CellTallies nD τ sig (HIx 1)) (W : Waits sig (HIx 1))

/-- The first staging buffer's contents when trip `n` begins to store: zeros, or the stamp before. -/
def baseA : ℕ → S32x8x8x16.Idx → F .f32
  | 0 => zf
  | n + 1 => cont (xrow (xblk xf (bOf L) n)) zf 0 32 0
def baseB : ℕ → S32x8x8x16.Idx → F .f32
  | 0 => zf
  | n + 1 => cont (xrow (xblk xf (bOf L) n)) zf 1 32 0

theorem over_baseA (row : ℕ → FVec F S16 .f32) (n : ℕ) : cont row (baseA L xf zf n) 0 32 0 = cont row zf 0 32 0 := by
  cases n with
  | zero => rfl
  | succ n => exact cont_over _ _ _ _
theorem over_baseB (row : ℕ → FVec F S16 .f32) (n : ℕ) : cont row (baseB L xf zf n) 1 32 0 = cont row zf 1 32 0 := by
  cases n with
  | zero => rfl
  | succ n => exact cont_over _ _ _ _

/-- What is under way at the start of trip `n` besides the rows: the zeros, or the stamp before. -/
def Stage : ℕ → sProp 𝕄
  | 0 => iprop(FZA d L z1 zf ∗ FZB d L z2 zf ∗ SV d L cc0_scratch3.sem ∗ SV d L cc0_scratch4.sem ∗ OP d L (bSet (bOf L)) (upTo xf zf o 0))
  | n + 1 => iprop(ZP d L z1 zf ∗ ZP d L z2 zf ∗ SV d L cc0_scratch6.sem ∗ SV d L cc0_scratch7.sem ∗ FOA d L xf zf o n ∗ FOB d L xf zf o n
      ∗ OP d L (bSet (bOf L) \ (oSet (bOf L) 0 n ∪ oSet (bOf L) 1 n)) (upTo xf zf o n))

/-- The rows of the next unit under way. -/
def Rows (u : ℕ) : sProp 𝕄 := iprop(FX d L q xf u ∗ XO d L q xf u)

def Inv (n : ℕ) : sProp 𝕄 := iprop(OW d L O W ∗ Rows d L q xf (min n 31) ∗ Stage d L z1 z2 xf zf o n)
def I1 (n : ℕ) : sProp 𝕄 := iprop(OW d L O W ∗ (XW d L q xf ∗ SV d L cc0_scratch5.sem) ∗ Stage d L z1 z2 xf zf o n)
/-- Nothing of the stamps is under way. -/
def Idle (n : ℕ) : sProp 𝕄 := iprop(ZP d L z1 zf ∗ ZP d L z2 zf ∗ SV d L cc0_scratch6.sem ∗ SV d L cc0_scratch7.sem ∗ SV d L cc0_scratch3.sem ∗ SV d L cc0_scratch4.sem
  ∗ OP d L (bSet (bOf L)) (upTo xf zf o n))
def I2 (n : ℕ) : sProp 𝕄 := iprop(OW d L O W ∗ Rows d L q xf (min (n + 1) 31) ∗ Idle d L z1 z2 xf zf o n)
/-- The first half is on its way. -/
def Half (n : ℕ) : sProp 𝕄 := iprop(ZP d L z1 zf ∗ ZP d L z2 zf ∗ SV d L cc0_scratch6.sem ∗ SV d L cc0_scratch7.sem ∗ FOA d L xf zf o n ∗ SV d L cc0_scratch4.sem
  ∗ OP d L (bSet (bOf L) \ oSet (bOf L) 0 n) (upTo xf zf o n) ∗ BP d L (cont (xrow (xblk xf (bOf L) n)) zf 1 32 0))
def I3 (n : ℕ) : sProp 𝕄 := iprop(OW d L O W ∗ Rows d L q xf (min (n + 1) 31) ∗ Half d L z1 z2 xf zf o n)

variable {d L q z1 z2 xf zf o O W}

theorem Stage_first {n : ℕ} (h : n = 0) : Stage d L z1 z2 xf zf o n
    = iprop(FZA d L z1 zf ∗ FZB d L z2 zf ∗ SV d L cc0_scratch3.sem ∗ SV d L cc0_scratch4.sem ∗ OP d L (bSet (bOf L)) (upTo xf zf o n)) := by
  subst h; rfl
theorem Stage_later {n : ℕ} (h : n ≠ 0) : Stage d L z1 z2 xf zf o n
    = iprop(ZP d L z1 zf ∗ ZP d L z2 zf ∗ SV d L cc0_scratch6.sem ∗ SV d L cc0_scratch7.sem ∗ FOA d L xf zf o (n - 1) ∗ FOB d L xf zf o (n - 1)
      ∗ OP d L (bSet (bOf L) \ (oSet (bOf L) 0 (n - 1) ∪ oSet (bOf L) 1 (n - 1))) (upTo xf zf o (n - 1))) := by
  cases n with
  | zero => exact absurd rfl h
  | succ n => rfl
theorem baseA_first {n : ℕ} (h : n = 0) : baseA L xf zf n = zf := by subst h; rfl
theorem baseB_first {n : ℕ} (h : n = 0) : baseB L xf zf n = zf := by subst h; rfl
theorem baseA_later {n : ℕ} (h : n ≠ 0) : baseA L xf zf n = cont (xrow (xblk xf (bOf L) (n - 1))) zf 0 32 0 := by
  cases n with
  | zero => exact absurd rfl h
  | succ n => rfl
theorem baseB_later {n : ℕ} (h : n ≠ 0) : baseB L xf zf n = cont (xrow (xblk xf (bOf L) (n - 1))) zf 1 32 0 := by
  cases n with
  | zero => exact absurd rfl h
  | succ n => rfl
theorem St_start (row : ℕ → FVec F S16 .f32) (ba bb : S32x8x8x16.Idx → F .f32) : St d L row ba bb 0 0 = iprop(AP d L ba ∗ BP d L bb) := by
  unfold St; rw [cont_zero, cont_zero]; rfl
theorem St_end (row : ℕ → FVec F S16 .f32) (ba bb : S32x8x8x16.Idx → F .f32) (l t : ℕ) :
    St d L row ba bb l t = iprop(AP d L (cont row ba 0 l t) ∗ BP d L (cont row bb 1 l t)) := rfl

theorem OP_half (R : Finset S32x64x8x4x8x128.Idx) (h : R ⊆ bSet (bOf L)) (f : S32x64x8x4x8x128.Idx → F .f32) :
    OP d L (bSet (bOf L)) f = iprop(OP d L R f ∗ OP d L (bSet (bOf L) \ R) f) := by
  unfold OP; exact eqv (pointsTo_split_subset h)

theorem OP_rest (n : ℕ) (f : S32x64x8x4x8x128.Idx → F .f32) :
    OP d L (bSet (bOf L) \ oSet (bOf L) 0 n) f = iprop(OP d L (oSet (bOf L) 1 n) f ∗ OP d L (bSet (bOf L) \ (oSet (bOf L) 0 n ∪ oSet (bOf L) 1 n)) f) := by
  unfold OP
  have e : bSet (bOf L) \ (oSet (bOf L) 0 n ∪ oSet (bOf L) 1 n) = (bSet (bOf L) \ oSet (bOf L) 0 n) \ oSet (bOf L) 1 n := by
    ext x; simp only [Finset.mem_sdiff, Finset.mem_union]; tauto
  rw [e]
  exact eqv (pointsTo_split_subset (Finset.subset_sdiff.mpr ⟨oSet_sub _ _ _, (oSet_disjoint _ _).symm⟩))

theorem OP_join (n : ℕ) :
    iprop(OP d L (oSet (bOf L) 0 n) (upTo xf zf o (n + 1)) ∗ OP d L (oSet (bOf L) 1 n) (upTo xf zf o (n + 1))
      ∗ OP d L (bSet (bOf L) \ (oSet (bOf L) 0 n ∪ oSet (bOf L) 1 n)) (upTo xf zf o n)) = OP d L (bSet (bOf L)) (upTo xf zf o (n + 1)) := by
  rw [OP_half (oSet (bOf L) 0 n) (oSet_sub _ _ _), OP_rest n]
  congr 2
  unfold OP
  exact pointsTo_congr (upTo_succ_off (bOf L) xf zf o n)

theorem head_runs (t : Fin k0_t1_loop.trips) :
    Runs d L (Inv d L q z1 z2 xf zf o O W t.val) (tripHead L t)
      iprop(I1 d L q z1 z2 xf zf o O W t.val ∗ XS d L (xblk xf (bOf L) t.val)) ⟨ivN t.val, lv (xrow (xblk xf (bOf L) t.val)) 0 0, 0#32⟩ := by
  have hm : min t.val 31 = t.val := by have := lt_of_lt_of_eq t.isLt trips_eq; omega
  unfold Inv I1 Rows; rw [hm]
  apply Runs.bind
  · refine Runs.step (fetched_runs (C := iprop(XO d L q xf t.val ∗ Stage d L z1 z2 xf zf o t.val)) (O := O) (W := W) (q := q) (xf := xf) (u := t.val) (k0_off2_inb L t)) ?_ rfl
    ac_rfl
  apply Runs.bind
  · refine Runs.step (load_x (f := xblk xf (bOf L) t.val) (C := iprop(OW d L O W ∗ (XW d L q xf ∗ SV d L cc0_scratch5.sem) ∗ Stage d L z1 z2 xf zf o t.val))) ?_ rfl
    rw [eqv (XW_split q xf t.val)]
    ac_rfl
  apply Runs.done
  apply Norm.pair Norm.refl
  apply Norm.pair
  · apply Norm.ofRow
    · rfl
    · decide
  · exact Norm.refl

/-- After the first trip's or a later trip's wait, nothing of the stamps is under way and the staging buffers are at hand. -/
theorem mid_runs (t : Fin k0_t1_loop.trips) (j1 j2 : BitVec 32) (j3 j4 j5 : BitVec 1) :
    Runs d L iprop(I1 d L q z1 z2 xf zf o O W t.val ∗ XS d L (xblk xf (bOf L) t.val))
      (tripMid L t (ivN t.val) (lv (xrow (xblk xf (bOf L) t.val)) 0 0) (lv (xrow (xblk xf (bOf L) t.val)) 0 1) (lv (xrow (xblk xf (bOf L) t.val)) 0 2) j1 j2 j3 j4 j5)
      iprop(I2 d L q z1 z2 xf zf o O W t.val ∗ St d L (xrow (xblk xf (bOf L) t.val)) (baseA L xf zf t.val) (baseB L xf zf t.val) 0 3) ⟨3#32, 0#32, 3#32⟩ := by
  unfold I1 I2 Rows
  apply Runs.bind
  · rw [eqv (XW_split q xf (min (t.val + 1) 31))]
    refine Runs.step (fetch_runs (C := iprop(OW d L O W ∗ XO d L q xf (min (t.val + 1) 31) ∗ Stage d L z1 z2 xf zf o t.val)) (q := q) (xf := xf)
      (g := xblk xf (bOf L) t.val) (off3_eq L t) (k0_off3_inb L t)) ?_ rfl
    ac_rfl
  by_cases h0 : t.val = 0
  case' pos =>
    refine Runs.pos ((first_iff t).2 h0) ?_
    rw [Stage_first h0]
    apply Runs.bind
    · refine Runs.step (zeroedA_runs (C := iprop(XO d L q xf (min (t.val + 1) 31) ∗ FX d L q xf (min (t.val + 1) 31) ∗ FZB d L z2 zf ∗ SV d L cc0_scratch3.sem
        ∗ SV d L cc0_scratch4.sem ∗ OP d L (bSet (bOf L)) (upTo xf zf o t.val))) (O := O) (W := W) (z1 := z1) (zf := zf)) ?_ rfl
      ac_rfl
    apply Runs.bind
    · refine Runs.step (zeroedB_runs (C := iprop(XO d L q xf (min (t.val + 1) 31) ∗ FX d L q xf (min (t.val + 1) 31) ∗ SV d L cc0_scratch3.sem
        ∗ SV d L cc0_scratch4.sem ∗ OP d L (bSet (bOf L)) (upTo xf zf o t.val) ∗ (AP d L zf ∗ ZP d L z1 zf) ∗ SV d L cc0_scratch6.sem))
        (O := O) (W := W) (z2 := z2) (zf := zf)) ?_ (B' := iprop((OW d L O W ∗ (FX d L q xf (min (t.val + 1) 31) ∗ XO d L q xf (min (t.val + 1) 31)) ∗ Idle d L z1 z2 xf zf o t.val)
          ∗ St d L (xrow (xblk xf (bOf L) t.val)) (baseA L xf zf t.val) (baseB L xf zf t.val) 0 0)) ?_
      · ac_rfl
      · rw [St_start, baseA_first h0, baseB_first h0]; unfold Idle; ac_rfl
    refine Runs.neg (fun h => (cond2_iff t).1 h h0) ?_
  case' neg =>
    refine Runs.neg (fun h => h0 ((first_iff t).1 h)) ?_
    refine Runs.pos ((cond2_iff t).2 h0) ?_
    rw [Stage_later h0]
    apply Runs.bind
    · apply Runs.bind
      · refine Runs.step (sentA_runs (C := iprop(XO d L q xf (min (t.val + 1) 31) ∗ FX d L q xf (min (t.val + 1) 31) ∗ ZP d L z1 zf ∗ ZP d L z2 zf
          ∗ SV d L cc0_scratch6.sem ∗ SV d L cc0_scratch7.sem ∗ FOB d L xf zf o (t.val - 1)
          ∗ OP d L (bSet (bOf L) \ (oSet (bOf L) 0 (t.val - 1) ∪ oSet (bOf L) 1 (t.val - 1))) (upTo xf zf o (t.val - 1))))
          (O := O) (W := W) (xf := xf) (zf := zf) (o := o) (u := t.val - 1) (k0_off4_inb L t ((cond2_iff t).2 h0))) ?_ rfl
        ac_rfl
      apply Runs.done
      exact Norm.refl
    apply Runs.bind
    · refine Runs.step (sentB_runs (C := iprop(XO d L q xf (min (t.val + 1) 31) ∗ FX d L q xf (min (t.val + 1) 31) ∗ ZP d L z1 zf ∗ ZP d L z2 zf
        ∗ SV d L cc0_scratch6.sem ∗ SV d L cc0_scratch7.sem ∗ (OP d L (oSet (bOf L) 0 (t.val - 1)) (upTo xf zf o (t.val - 1 + 1))
        ∗ AP d L (cont (xrow (xblk xf (bOf L) (t.val - 1))) zf 0 32 0)) ∗ SV d L cc0_scratch3.sem
        ∗ OP d L (bSet (bOf L) \ (oSet (bOf L) 0 (t.val - 1) ∪ oSet (bOf L) 1 (t.val - 1))) (upTo xf zf o (t.val - 1))))
        (O := O) (W := W) (xf := xf) (zf := zf) (o := o) (u := t.val - 1) (k0_off5_inb L t ((cond2_iff t).2 h0)))
        ?_ (B' := iprop((OW d L O W ∗ (FX d L q xf (min (t.val + 1) 31) ∗ XO d L q xf (min (t.val + 1) 31)) ∗ Idle d L z1 z2 xf zf o t.val)
          ∗ St d L (xrow (xblk xf (bOf L) t.val)) (baseA L xf zf t.val) (baseB L xf zf t.val) 0 0)) ?_
      · ac_rfl
      · have hj := OP_join (d := d) (L := L) (xf := xf) (zf := zf) (o := o) (t.val - 1)
        rw [St_start, baseA_later h0, baseB_later h0]; unfold Idle
        rw [show upTo xf zf o t.val = upTo xf zf o (t.val - 1 + 1) from by rw [Nat.sub_add_cancel (by omega)], ← hj]; ac_rfl
  all_goals
    apply Runs.bind
    · exact load_a
    apply Runs.bind
    · exact store_a (l' := 0) (t' := 1) (by decide) (by decide) (by decide) IsLv.here
    apply Runs.bind
    · exact load_a
    apply Runs.bind
    · exact store_a (l' := 0) (t' := 2) (by decide) (by decide) (by decide) IsLv.here
    apply Runs.bind
    · exact load_a
    apply Runs.bind
    · exact store_a (l' := 0) (t' := 3) (by decide) (by decide) (by decide) IsLv.here
    apply Runs.done
    exact Norm.refl

theorem sendA_step (t : Fin k0_t1_loop.trips) :
    Runs d L iprop(I2 d L q z1 z2 xf zf o O W t.val ∗ St d L (xrow (xblk xf (bOf L) t.val)) (baseA L xf zf t.val) (baseB L xf zf t.val) 32 0)
      (sendA L (k0_off6 L t) (k0_off6_inb L t)) (I3 d L q z1 z2 xf zf o O W t.val) ⟨⟩ := by
  unfold I2 I3 Idle Half
  rw [St_end, over_baseA, over_baseB, OP_half (oSet (bOf L) 0 t.val) (oSet_sub _ _ _)]
  refine Runs.step (sendA_runs (C := iprop(OW d L O W ∗ Rows d L q xf (min (t.val + 1) 31) ∗ ZP d L z1 zf ∗ ZP d L z2 zf ∗ SV d L cc0_scratch6.sem ∗ SV d L cc0_scratch7.sem
    ∗ SV d L cc0_scratch4.sem ∗ OP d L (bSet (bOf L) \ oSet (bOf L) 0 t.val) (upTo xf zf o t.val) ∗ BP d L (cont (xrow (xblk xf (bOf L) t.val)) zf 1 32 0)))
    (xf := xf) (zf := zf) (o := o) (u := t.val) (off6_eq L t) (k0_off6_inb L t)) ?_ ?_
  · ac_rfl
  · ac_rfl

theorem sendB_step (t : Fin k0_t1_loop.trips) :
    Runs d L (I3 d L q z1 z2 xf zf o O W t.val) (sendB L (k0_off7 L t) (k0_off7_inb L t)) (Inv d L q z1 z2 xf zf o O W (t.val + 1)) ⟨⟩ := by
  unfold I3 Inv Half
  rw [OP_rest, Stage_later (Nat.succ_ne_zero _), Nat.succ_sub_one]
  refine Runs.step (sendB_runs (C := iprop(OW d L O W ∗ Rows d L q xf (min (t.val + 1) 31) ∗ ZP d L z1 zf ∗ ZP d L z2 zf ∗ SV d L cc0_scratch6.sem ∗ SV d L cc0_scratch7.sem
    ∗ FOA d L xf zf o t.val ∗ OP d L (bSet (bOf L) \ (oSet (bOf L) 0 t.val ∪ oSet (bOf L) 1 t.val)) (upTo xf zf o t.val)))
    (xf := xf) (zf := zf) (o := o) (u := t.val) (off7_eq L t) (k0_off7_inb L t)) ?_ ?_
  · ac_rfl
  · ac_rfl

/-- What the last stamp's waits leave. -/
def End1 : sProp 𝕄 := iprop(OW d L O W ∗ Rows d L q xf 31 ∗ (ZP d L z1 zf ∗ ZP d L z2 zf ∗ SV d L cc0_scratch6.sem ∗ SV d L cc0_scratch7.sem ∗ SV d L cc0_scratch3.sem
  ∗ OP d L (oSet (bOf L) 0 31) (upTo xf zf o 32) ∗ AP d L (cont (xrow (xblk xf (bOf L) 31)) zf 0 32 0) ∗ FOB d L xf zf o 31
  ∗ OP d L (bSet (bOf L) \ (oSet (bOf L) 0 31 ∪ oSet (bOf L) 1 31)) (upTo xf zf o 31)))
def End2 : sProp 𝕄 := iprop(OW d L O W ∗ Rows d L q xf 31 ∗ Idle d L z1 z2 xf zf o 32 ∗ AP d L (cont (xrow (xblk xf (bOf L) 31)) zf 0 32 0)
  ∗ BP d L (cont (xrow (xblk xf (bOf L) 31)) zf 1 32 0))
/-- What the body leaves. -/
def End3 : sProp 𝕄 := iprop(OW d L O W ∗ (XW d L q xf ∗ SV d L cc0_scratch5.sem) ∗ Idle d L z1 z2 xf zf o 32 ∗ XS d L (xblk xf (bOf L) 31)
  ∗ AP d L (cont (xrow (xblk xf (bOf L) 31)) zf 0 32 0) ∗ BP d L (cont (xrow (xblk xf (bOf L) 31)) zf 1 32 0))

theorem sentA_end : Runs d L (Inv d L q z1 z2 xf zf o O W k0_t1_loop.trips) (sentA L (k0_off8 L) (k0_off8_inb L)) (End1 (d := d) (L := L) (q := q) (z1 := z1) (z2 := z2) (xf := xf) (zf := zf) (o := o) (O := O) (W := W)) ⟨⟩ := by
  rw [trips_eq]
  unfold Inv End1
  rw [Stage_later (n := 32) (by decide), show 32 - 1 = 31 from rfl, show min 32 31 = 31 from rfl]
  refine Runs.step (sentA_runs (C := iprop(Rows d L q xf 31 ∗ ZP d L z1 zf ∗ ZP d L z2 zf ∗ SV d L cc0_scratch6.sem ∗ SV d L cc0_scratch7.sem
    ∗ FOB d L xf zf o 31 ∗ OP d L (bSet (bOf L) \ (oSet (bOf L) 0 31 ∪ oSet (bOf L) 1 31)) (upTo xf zf o 31)))
    (O := O) (W := W) (xf := xf) (zf := zf) (o := o) (u := 31) (k0_off8_inb L)) ?_ ?_
  · ac_rfl
  · ac_rfl

theorem sentB_end : Runs d L (End1 (d := d) (L := L) (q := q) (z1 := z1) (z2 := z2) (xf := xf) (zf := zf) (o := o) (O := O) (W := W)) (sentB L (k0_off9 L) (k0_off9_inb L))
    (End2 (d := d) (L := L) (q := q) (z1 := z1) (z2 := z2) (xf := xf) (zf := zf) (o := o) (O := O) (W := W)) ⟨⟩ := by
  unfold End1 End2 Idle
  refine Runs.step (sentB_runs (C := iprop(Rows d L q xf 31 ∗ ZP d L z1 zf ∗ ZP d L z2 zf ∗ SV d L cc0_scratch6.sem ∗ SV d L cc0_scratch7.sem ∗ SV d L cc0_scratch3.sem
    ∗ OP d L (oSet (bOf L) 0 31) (upTo xf zf o 32) ∗ AP d L (cont (xrow (xblk xf (bOf L) 31)) zf 0 32 0)
    ∗ OP d L (bSet (bOf L) \ (oSet (bOf L) 0 31 ∪ oSet (bOf L) 1 31)) (upTo xf zf o 31)))
    (O := O) (W := W) (xf := xf) (zf := zf) (o := o) (u := 31) (k0_off9_inb L)) ?_ ?_
  · ac_rfl
  · rw [← OP_join (d := d) (L := L) (xf := xf) (zf := zf) (o := o) 31]; ac_rfl

theorem fetched_end : Runs d L (End2 (d := d) (L := L) (q := q) (z1 := z1) (z2 := z2) (xf := xf) (zf := zf) (o := o) (O := O) (W := W)) (fetched L (k0_off10 L) (k0_off10_inb L))
    (End3 (d := d) (L := L) (q := q) (z1 := z1) (z2 := z2) (xf := xf) (zf := zf) (o := o) (O := O) (W := W)) ⟨⟩ := by
  unfold End2 End3 Rows
  refine Runs.step (fetched_runs (C := iprop(XO d L q xf 31 ∗ Idle d L z1 z2 xf zf o 32 ∗ AP d L (cont (xrow (xblk xf (bOf L) 31)) zf 0 32 0)
    ∗ BP d L (cont (xrow (xblk xf (bOf L) 31)) zf 1 32 0))) (O := O) (W := W) (q := q) (xf := xf) (u := 31) (k0_off10_inb L)) ?_ ?_
  · ac_rfl
  · rw [eqv (XW_split q xf 31)]; ac_rfl

end Tile

end Cert.Proof.Pyramid

end
-- ==== Proof.Walk.lean ====
module

public import proofs.«01_k».proof.Proof.Moves
public import Idealize.ShloMosaic.Lib.Writes
public import Idealize.ShloMosaic.Lib.Pipeline.Value

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xtM" => (Memref.whole Cert.KernelIdeal.main_v1_scv : Memref Cert.KernelIdeal.sig Kind.scVector Space.hbm Cert.KernelIdeal.S32x8x4x8x128 EltTy.f32)
local notation "zM" => (Memref.whole Cert.KernelIdeal.main_v2_scv : Memref Cert.KernelIdeal.sig Kind.scVector Space.hbm Cert.KernelIdeal.S32x8x8x16 EltTy.f32)
local notation "outM" => (Memref.whole Cert.KernelIdeal.main_v3_scv : Memref Cert.KernelIdeal.sig Kind.scVector Space.hbm Cert.KernelIdeal.S32x64x8x4x8x128 EltTy.f32)
local notation "xvM" => (Memref.whole Cert.KernelIdeal.cc0_scratch0 : Memref Cert.KernelIdeal.sig Kind.scVector Space.vmem Cert.KernelIdeal.S8x8x16 EltTy.f32)
local notation "aM" => (Memref.whole Cert.KernelIdeal.cc0_scratch1 : Memref Cert.KernelIdeal.sig Kind.scVector Space.vmem Cert.KernelIdeal.S32x8x8x16 EltTy.f32)
local notation "bM" => (Memref.whole Cert.KernelIdeal.cc0_scratch2 : Memref Cert.KernelIdeal.sig Kind.scVector Space.vmem Cert.KernelIdeal.S32x8x8x16 EltTy.f32)

variable [FloatOps F] {d : Dev nD} {L : grid0.Coords}

/-! ## A trip's stores, one after the other -/

/-- The loop by an invariant. -/
theorem Runs.loop {I : ℕ → sProp 𝕄} {body : Fin k0_t1_loop.trips → PUnit → TileProg F L PUnit}
    (h : ∀ t, Runs d L (I t.val) (body t ⟨⟩) (I (t.val + 1)) ⟨⟩) :
    Runs d L (I 0) (Scf.Loop.for k0_t1_loop k0_t1_ok ⟨⟩ body) (I k0_t1_loop.trips) ⟨⟩ := by
  intro Q
  iintro ⟨HI, HQ⟩
  iapply (Scf.wp_for frame (wpE (defs₀ (F := F)) 𝒱₀ (me d L) none) Set.univ k0_t1_loop.lb k0_t1_loop.ub k0_t1_loop.st k0_t1_ok ⟨⟩ body (fun n _ => I n)
    (fun k acc => by
      iintro HI
      iapply (h k (fun _ => I (k.val + 1)))
      isplitl [HI]; · iexact HI
      iintro H; iexact H))
  isplitl [HI]; · iexact HI
  iintro %acc H
  iapply HQ; iexact H

set_option maxRecDepth 16384 in
set_option maxHeartbeats 0 in
/-- The body, its copies and waits taken as given: every trip stores every window of every level, one after the other. -/
theorem walk {A A1 A2 B1 B2 : sProp 𝕄} {I C1 C2 C3 : ℕ → sProp 𝕄} {iv : ℕ → BitVec 32} {f : ℕ → S8x8x16.Idx → F .f32}
    {ba bb : ℕ → S32x8x8x16.Idx → F .f32}
    (hza : Runs d L A (zeroA L) A1 ⟨⟩) (hzb : Runs d L A1 (zeroB L) A2 ⟨⟩)
    (hx : Runs d L A2 (fetch L (k0_off1 L) (k0_off1_inb L)) (I 0) ⟨⟩)
    (hhead : ∀ t, Runs d L (I t.val) (tripHead L t) iprop(C1 t.val ∗ XS d L (f t.val)) ⟨iv t.val, lv (xrow (f t.val)) 0 0, 0#32⟩)
    (hmid : ∀ t j1 j2 j3 j4 j5, Runs d L iprop(C1 t.val ∗ XS d L (f t.val))
      (tripMid L t (iv t.val) (lv (xrow (f t.val)) 0 0) (lv (xrow (f t.val)) 0 1) (lv (xrow (f t.val)) 0 2) j1 j2 j3 j4 j5)
      iprop(C2 t.val ∗ St d L (xrow (f t.val)) (ba t.val) (bb t.val) 0 3) ⟨3#32, 0#32, 3#32⟩)
    (hsa : ∀ t, Runs d L iprop(C2 t.val ∗ St d L (xrow (f t.val)) (ba t.val) (bb t.val) 32 0) (sendA L (k0_off6 L t) (k0_off6_inb L t)) (C3 t.val) ⟨⟩)
    (hsb : ∀ t, Runs d L (C3 t.val) (sendB L (k0_off7 L t) (k0_off7_inb L t)) (I (t.val + 1)) ⟨⟩)
    (hwa : Runs d L (I k0_t1_loop.trips) (sentA L (k0_off8 L) (k0_off8_inb L)) B1 ⟨⟩)
    (hwb : Runs d L B1 (sentB L (k0_off9 L) (k0_off9_inb L)) B2 ⟨⟩) :
    Runs d L A
      (k0_part217 L xtM (Memref.isWhole_whole _) zM (Memref.isWhole_whole _) outM (Memref.isWhole_whole _) xvM (Memref.isWhole_whole _) aM (Memref.isWhole_whole _) bM (Memref.isWhole_whole _)
        cc0_scratch3 cc0_scratch4 cc0_scratch5 cc0_scratch6 cc0_scratch7) B2 ⟨⟩ := by
  apply Runs.bind
  exact hza
  apply Runs.bind
  exact hzb
  apply Runs.bind
  exact hx
  apply Runs.bind
  apply Runs.loop (I := I)
  intro t
  · repeat' first
        | with_reducible exact load_x
        | with_reducible exact load_a
        | with_reducible exact load_b
        | (with_reducible apply store_a
           case hf => decide
           case hl => simp only [next, size, Nat.reduceAdd, Nat.reduceLT, Nat.reduceSub, Nat.reduceEqDiff, if_true, if_false]; exact rfl
           case ht => simp only [next, size, Nat.reduceAdd, Nat.reduceLT, Nat.reduceSub, Nat.reduceEqDiff, if_true, if_false]; exact rfl)
        | (with_reducible apply store_b
           case hf => decide
           case hl => simp only [next, size, Nat.reduceAdd, Nat.reduceLT, Nat.reduceSub, Nat.reduceEqDiff, if_true, if_false]; exact rfl
           case ht => simp only [next, size, Nat.reduceAdd, Nat.reduceLT, Nat.reduceSub, Nat.reduceEqDiff, if_true, if_false]; exact rfl)
        | with_reducible exact hhead t
        | with_reducible exact hmid t _ _ _ _ _
        | with_reducible exact hsa t
        | with_reducible exact hsb t
        | with_reducible exact IsLv.here
        | (with_reducible apply IsLv.three (by decide))
        | (with_reducible apply IsLv.two (by decide))
        | with_reducible apply Runs.done
        | (with_reducible apply Norm.ofRow
           case ht => simp only [Matrix.cons_val_zero, Matrix.cons_val_one, Nat.reduceAdd, Nat.reduceMul]; exact rfl
           case h1 => decide)
        | (with_reducible apply Norm.three
           case hx => exact Norm.refl
           case hy => exact Norm.refl
           case hz => exact Norm.refl
           case ht => simp only [Nat.reduceDiv]; exact rfl
           case h1 => rfl
           case h2 => rfl
           case h3 => rfl
           case hl => simp only [Nat.reduceAdd]; exact rfl
           case h => decide)
        | (with_reducible apply Norm.two
           case hx => exact Norm.refl
           case hy => exact Norm.refl
           case ht => rfl
           case hl => simp only [Nat.reduceAdd]; exact rfl
           case h => decide)
        | apply Norm.pair
        | exact Norm.refl
        | apply Runs.bind
  apply Runs.bind
  exact hwa
  apply Runs.bind
  exact hwb
  apply Runs.done
  exact Norm.refl
end Cert.Proof.Pyramid
-- ==== Proof.Body.lean ====
module

public import proofs.«01_k».proof.Proof.Trip
public import proofs.«01_k».proof.Proof.Walk

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xtM" => (Memref.whole Cert.KernelIdeal.main_v1_scv : Memref Cert.KernelIdeal.sig Kind.scVector Space.hbm Cert.KernelIdeal.S32x8x4x8x128 EltTy.f32)
local notation "zM" => (Memref.whole Cert.KernelIdeal.main_v2_scv : Memref Cert.KernelIdeal.sig Kind.scVector Space.hbm Cert.KernelIdeal.S32x8x8x16 EltTy.f32)
local notation "outM" => (Memref.whole Cert.KernelIdeal.main_v3_scv : Memref Cert.KernelIdeal.sig Kind.scVector Space.hbm Cert.KernelIdeal.S32x64x8x4x8x128 EltTy.f32)
local notation "xvM" => (Memref.whole Cert.KernelIdeal.cc0_scratch0 : Memref Cert.KernelIdeal.sig Kind.scVector Space.vmem Cert.KernelIdeal.S8x8x16 EltTy.f32)
local notation "aM" => (Memref.whole Cert.KernelIdeal.cc0_scratch1 : Memref Cert.KernelIdeal.sig Kind.scVector Space.vmem Cert.KernelIdeal.S32x8x8x16 EltTy.f32)
local notation "bM" => (Memref.whole Cert.KernelIdeal.cc0_scratch2 : Memref Cert.KernelIdeal.sig Kind.scVector Space.vmem Cert.KernelIdeal.S32x8x8x16 EltTy.f32)

variable [FloatOps F] {d : Dev nD} {L : grid0.Coords}

/-! ## The whole body -/

section Body

variable {q z1 z2 : PosShare TreeShare} {xf : S32x8x4x8x128.Idx → F .f32} {zf ya yb : S32x8x8x16.Idx → F .f32} {g : S8x8x16.Idx → F .f32}
  {o : S32x64x8x4x8x128.Idx → F .f32} {O : CellTallies nD τ sig (HIx 1)} {W : Waits sig (HIx 1)}

/-- What the body starts from: its input, its zeros and its batch of the output, its buffers at any contents, its
    semaphores at zero. -/
def Start (d : Dev nD) (L : grid0.Coords) (q z1 z2 : PosShare TreeShare) (xf : S32x8x4x8x128.Idx → F .f32) (zf ya yb : S32x8x8x16.Idx → F .f32) (g : S8x8x16.Idx → F .f32)
    (o : S32x64x8x4x8x128.Idx → F .f32) (O : CellTallies nD τ sig (HIx 1)) (W : Waits sig (HIx 1)) : sProp 𝕄 :=
  iprop(OW d L O W ∗ (XW d L q xf ∗ SV d L cc0_scratch5.sem) ∗ Idle d L z1 z2 xf zf o 0 ∗ XS d L g ∗ AP d L ya ∗ BP d L yb)

theorem body_runs :
    Runs d L (Start d L q z1 z2 xf zf ya yb g o O W)
      (cc0__sc_body L xtM (Memref.isWhole_whole _) zM (Memref.isWhole_whole _) outM (Memref.isWhole_whole _) xvM (Memref.isWhole_whole _) aM (Memref.isWhole_whole _) bM (Memref.isWhole_whole _)
        cc0_scratch3 cc0_scratch4 cc0_scratch5 cc0_scratch6 cc0_scratch7)
      (End3 (d := d) (L := L) (q := q) (z1 := z1) (z2 := z2) (xf := xf) (zf := zf) (o := o) (O := O) (W := W)) ⟨⟩ := by
  apply Runs.bind
  · refine walk (I := fun n => Inv d L q z1 z2 xf zf o O W n) (C1 := fun n => I1 d L q z1 z2 xf zf o O W n) (C2 := fun n => I2 d L q z1 z2 xf zf o O W n)
      (C3 := fun n => I3 d L q z1 z2 xf zf o O W n) (iv := ivN) (f := fun n => xblk xf (bOf L) n) (ba := baseA L xf zf) (bb := baseB L xf zf)
      (A1 := iprop((OW d L O W ∗ XW d L q xf ∗ SV d L cc0_scratch5.sem ∗ ZP d L z2 zf ∗ SV d L cc0_scratch7.sem ∗ SV d L cc0_scratch3.sem ∗ SV d L cc0_scratch4.sem
        ∗ OP d L (bSet (bOf L)) (upTo xf zf o 0) ∗ XS d L g ∗ BP d L yb) ∗ FZA d L z1 zf))
      (A2 := iprop((OW d L O W ∗ XW d L q xf ∗ SV d L cc0_scratch5.sem ∗ SV d L cc0_scratch3.sem ∗ SV d L cc0_scratch4.sem
        ∗ OP d L (bSet (bOf L)) (upTo xf zf o 0) ∗ XS d L g ∗ FZA d L z1 zf) ∗ FZB d L z2 zf))
      (Runs.step (zeroA_runs (ya := ya)) ?_ rfl) (Runs.step (zeroB_runs (yb := yb)) ?_ rfl) ?_ head_runs (fun t j1 j2 j3 j4 j5 => mid_runs t j1 j2 j3 j4 j5)
      sendA_step sendB_step sentA_end sentB_end
    · unfold Start Idle; ac_rfl
    · ac_rfl
    · rw [eqv (XW_split q xf 0)]
      refine Runs.step (fetch_runs (C := iprop(OW d L O W ∗ XO d L q xf 0 ∗ SV d L cc0_scratch3.sem ∗ SV d L cc0_scratch4.sem
        ∗ OP d L (bSet (bOf L)) (upTo xf zf o 0) ∗ FZA d L z1 zf ∗ FZB d L z2 zf)) (q := q) (xf := xf) (g := g) (u := 0) (k0_off1_eq L) (k0_off1_inb L)) ?_ ?_
      · ac_rfl
      · show _ = Inv d L q z1 z2 xf zf o O W 0
        unfold Inv Rows
        rw [Stage_first rfl, show min 0 31 = 0 from rfl]
        ac_rfl
  apply Runs.bind
  · exact fetched_end
  apply Runs.done
  exact Norm.refl

end Body

end Cert.Proof.Pyramid

end
-- ==== Proof.Task.lean ====
module

public import proofs.«01_k».proof.Proof.Body

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xtM" => (Memref.whole Cert.KernelIdeal.main_v1_scv : Memref Cert.KernelIdeal.sig Kind.scVector Space.hbm Cert.KernelIdeal.S32x8x4x8x128 EltTy.f32)
local notation "zM" => (Memref.whole Cert.KernelIdeal.main_v2_scv : Memref Cert.KernelIdeal.sig Kind.scVector Space.hbm Cert.KernelIdeal.S32x8x8x16 EltTy.f32)
local notation "outM" => (Memref.whole Cert.KernelIdeal.main_v3_scv : Memref Cert.KernelIdeal.sig Kind.scVector Space.hbm Cert.KernelIdeal.S32x64x8x4x8x128 EltTy.f32)
local notation "xvM" => (Memref.whole Cert.KernelIdeal.cc0_scratch0 : Memref Cert.KernelIdeal.sig Kind.scVector Space.vmem Cert.KernelIdeal.S8x8x16 EltTy.f32)
local notation "aM" => (Memref.whole Cert.KernelIdeal.cc0_scratch1 : Memref Cert.KernelIdeal.sig Kind.scVector Space.vmem Cert.KernelIdeal.S32x8x8x16 EltTy.f32)
local notation "bM" => (Memref.whole Cert.KernelIdeal.cc0_scratch2 : Memref Cert.KernelIdeal.sig Kind.scVector Space.vmem Cert.KernelIdeal.S32x8x8x16 EltTy.f32)

open Idealize.ShloMosaic.SparseCore.Cfg (tileRest ownBufs ownSems0 ownCells ownRefs mem_ownCells mem_ownRefs)

/-! ## The launch: what the call carries -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

abbrev xLoc (d : Dev nD) : Loc nD τ sig := (SparseCore.T d).loc main_v1
abbrev zLoc (d : Dev nD) : Loc nD τ sig := (SparseCore.T d).loc main_v2
abbrev oLoc (d : Dev nD) : Loc nD τ sig := (SparseCore.T d).loc main_v3

/-- The batch of vector subcore `s` of SparseCore `c`. -/
def batch (c : Fin 2) (s : Fin 16) : Fin 32 := ⟨2 * s.val + c.val, by omega⟩

/-- Batch `b`'s share of what every subcore reads. -/
abbrev shareOf (b : Fin 32) : PosShare TreeShare := Transfers.dealOf fullShare Finset.univ b

/-- What batch `b`'s subcore is handed: a share of the input and of the zeros, and the batch's output at `f`. -/
def tile (X : S32x8x4x8x128.Idx → F .f32) (Z : S32x8x8x16.Idx → F .f32) (d : Dev nD) (f : S32x64x8x4x8x128.Idx → F .f32) (b : Fin 32) : sProp 𝕄 :=
  iprop((xLoc d ↦{shareOf b} X) ∗ (zLoc d ↦{shareOf b} Z) ∗ oLoc d ↦[bSet b.val]{fullShare} f)

instance tile_storable (X : S32x8x4x8x128.Idx → F .f32) (Z : S32x8x8x16.Idx → F .f32) (d : Dev nD) (f : S32x64x8x4x8x128.Idx → F .f32) (b : Fin 32) :
    BI.Storable (upEmb : UEmb _ 𝕄) (tile X Z d f b) := by unfold tile; infer_instance

variable [FloatOps F] (X : Dev nD → S32x8x4x8x128.Idx → F .f32) (Z : Dev nD → S32x8x8x16.Idx → F .f32) (o : Dev nD → S32x64x8x4x8x128.Idx → F .f32)

/-- The output as the call leaves it. -/
abbrev out (d : Dev nD) : S32x64x8x4x8x128.Idx → F .f32 := stamped (X d) (Z d)

/-- The call hands each SparseCore its subcores' parts and takes them back with the output's batches written. -/
def P : (K (F := F)).Pay (nD := nD) (Val := Elt F) (Name := ℕ) (U := UU) where
  st := fun q d c => match q with | 0 => bigSep Finset.univ fun s : Fin 16 => tile (X d) (Z d) d (o d) (batch (Fin.cast nCore_zero c) s)
  dn := fun q d c => match q with | 0 => bigSep Finset.univ fun s : Fin 16 => tile (X d) (Z d) d (out X Z d) (batch (Fin.cast nCore_zero c) s)
  go := fun q d c i => match q with | 0 => tile (X d) (Z d) d (o d) (batch (Fin.cast nCore_zero c) (Fin.cast nSub_zero i))
  td := fun q d c i => match q with | 0 => tile (X d) (Z d) d (out X Z d) (batch (Fin.cast nCore_zero c) (Fin.cast nSub_zero i))
  x := fun _ _ => iprop(emp)

instance P_storable : (P (F := F) X Z o).IsStorable where
  st q d c := match q with
    | 0 => (inferInstance : BI.Storable (upEmb : UEmb _ 𝕄) (bigSep Finset.univ fun s : Fin 16 => tile (X d) (Z d) d (o d) (batch (Fin.cast nCore_zero c) s)))
  dn q d c := match q with
    | 0 => (inferInstance : BI.Storable (upEmb : UEmb _ 𝕄) (bigSep Finset.univ fun s : Fin 16 => tile (X d) (Z d) d (out X Z d) (batch (Fin.cast nCore_zero c) s)))
  go q d c i := match q with | 0 => tile_storable _ _ _ _ _
  td q d c i := match q with | 0 => tile_storable _ _ _ _ _

/-! ## The task -/

section Task

variable (d : Dev nD) (L : grid0.Coords)

/-- The tile's DMA semaphores and scratch buffers. -/
abbrev semsV : Finset (DmaSem sig) := {cc0_scratch3.sem, cc0_scratch4.sem, cc0_scratch5.sem, cc0_scratch6.sem, cc0_scratch7.sem}
abbrev refsV : Finset (Ref sig .scVector) := {cc0_scratch0, cc0_scratch1, cc0_scratch2}

/-- A DMA semaphore as one of the tile's cells; a scratch buffer as one of its buffers. -/
def cellEmb (d : Dev nD) (L : grid0.Coords) : DmaSem sig ↪ GSem nD τ sig := ⟨fun s => (me d L, .dma s), fun a b h => by simpa using h⟩
def refEmb (L : grid0.Coords) : Ref sig .scVector ↪ DevRef τ sig := ⟨Proc.devRef (Proc.scVector (cV L) (jV L)), Proc.devRef_injective _⟩

omit [FloatOps F] in
theorem cells_sub : (semsV.map (cellEmb d L)) ⊆ ownCells (me d L) := by
  intro g hg
  rw [Finset.mem_map] at hg
  obtain ⟨s, hs, rfl⟩ := hg
  refine (mem_ownCells (g := (me d L, SemLoc.dma s))).mpr ⟨rfl, ?_⟩
  have : ∀ s ∈ semsV, (SemLoc.dma s : SemLoc sig).isScoped .scVector = true := by decide
  exact this s hs

omit [FloatOps F] in
theorem refs_sub : (refsV.map (refEmb L)) ⊆ ownRefs (τ := τ) (.scVector (cV L) (jV L)) := by
  intro b hb
  rw [Finset.mem_map] at hb
  obtain ⟨r, hr, rfl⟩ := hb
  refine SparseCore.Cfg.mem_ownRefs_of_owner (p := Proc.scVector (cV L) (jV L)) (b := (Proc.scVector (cV L) (jV L)).devRef r) ?_
  simp only [refsV, Finset.mem_insert, Finset.mem_singleton] at hr
  rcases hr with rfl | rfl | rfl <;> rfl

/-- The rest of the tile's cells and buffers. -/
abbrev restSems (d : Dev nD) (L : grid0.Coords) : sProp 𝕄 := bigSep (ownCells (me d L) \ semsV.map (cellEmb d L)) fun g => semVal g 0
abbrev restBufs (d : Dev nD) (L : grid0.Coords) : sProp 𝕄 :=
  bigSep (ownRefs (τ := τ) (.scVector (cV L) (jV L)) \ refsV.map (refEmb L)) fun b => iprop(∃ f, ((d, b) : Loc nD τ sig) ↦{fullShare} f)

omit [FloatOps F] in
theorem ownSems0_V : (ownSems0 (me d L) : sProp 𝕄)
    = iprop((SV d L cc0_scratch3.sem ∗ SV d L cc0_scratch4.sem ∗ SV d L cc0_scratch5.sem ∗ SV d L cc0_scratch6.sem ∗ SV d L cc0_scratch7.sem) ∗ restSems d L) := by
  unfold SparseCore.Cfg.ownSems0
  rw [bigSep_sdiff_split (cells_sub d L), bigSep_map, SparseCore.bigSep_insert' (by decide), SparseCore.bigSep_insert' (by decide),
    SparseCore.bigSep_insert' (by decide), SparseCore.bigSep_insert' (by decide), bigSep_singleton]
  rfl

omit [FloatOps F] in
theorem ownBufs_V : (ownBufs (me d L) : sProp 𝕄)
    = iprop(((∃ f, XS d L f) ∗ (∃ f, AP d L f) ∗ ∃ f, BP d L f) ∗ restBufs d L) := by
  unfold SparseCore.Cfg.ownBufs
  refine (bigSep_sdiff_split (refs_sub L)).trans ?_
  rw [bigSep_map, SparseCore.bigSep_insert' (by decide), SparseCore.bigSep_insert' (by decide), bigSep_singleton]
  rfl

theorem upTo_all (xf : S32x8x4x8x128.Idx → F .f32) (zf : S32x8x8x16.Idx → F .f32) (g : S32x64x8x4x8x128.Idx → F .f32) : upTo xf zf g 32 = stamped xf zf := by
  funext x
  have h3 : (x 3).val < 4 := (x 3).isLt
  have h5 : (x 5).val < 128 := (x 5).isLt
  exact if_pos (show unitOf x < 32 by unfold unitOf; omega)
theorem upTo_none (xf : S32x8x4x8x128.Idx → F .f32) (zf : S32x8x8x16.Idx → F .f32) (g : S32x64x8x4x8x128.Idx → F .f32) : upTo xf zf g 0 = g := by
  funext x; exact if_neg (Nat.not_lt_zero _)

omit [FloatOps F] in
theorem bOf_lt (L : grid0.Coords) : bOf L < 32 := by
  have h0 : (L 0).val < 2 := (L 0).isLt
  have h1 : (L 1).val < 16 := (L 1).isLt
  unfold bOf; omega

theorem tile_body (hF : (K (F := F)).Facts) (O : CellTallies nD τ sig (HIx 1)) (W : Waits sig (HIx 1)) (hO : ∀ g, O g none = 0) :
    iprop(levAts (K (F := F)).L (K (F := F)).lev ∗ emp ∗ tile (X d) (Z d) d (o d) ⟨bOf L, bOf_lt L⟩
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xtM (Memref.isWhole_whole _) zM (Memref.isWhole_whole _) outM (Memref.isWhole_whole _) xvM (Memref.isWhole_whole _) aM (Memref.isWhole_whole _) bM (Memref.isWhole_whole _)
            cc0_scratch3 cc0_scratch4 cc0_scratch5 cc0_scratch6 cc0_scratch7)
          fun _ => iprop(tile (X d) (Z d) d (out X Z d) ⟨bOf L, bOf_lt L⟩
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tile
  iintro ⟨#Hlv, -, ⟨Hx, Hz, Ho⟩, ⟨⟨⟨%g, Hg⟩, ⟨%ya, Ha⟩, %yb, Hb⟩, Hbufs⟩, ⟨⟨H3, H4, H5, H6, H7⟩, Hsems⟩, HO⟩
  ihave Hmw := (show levAts (K (F := F)).L (K (F := F)).lev ⊢ Transfers.MayWaits (me d L) (default : HIx 1) O from
    (K (F := F)).mayWaits_none (thr := me d L) hO) $$ Hlv
  ihave Hzs := (pointsTo_share (PosShare.mem_left_op_right (shareOf ⟨bOf L, bOf_lt L⟩))).1 $$ Hz
  icases Hzs with ⟨Hz1, Hz2⟩
  iapply (body_runs (d := d) (L := L) (q := shareOf ⟨bOf L, bOf_lt L⟩) (z1 := (shareOf ⟨bOf L, bOf_lt L⟩).left) (z2 := (shareOf ⟨bOf L, bOf_lt L⟩).right)
    (xf := X d) (zf := Z d) (ya := ya) (yb := yb) (g := g) (o := o d) (O := O) (W := W) _)
  isplitr [Hbufs Hsems]
  · unfold Start OW Idle XW ZP OP
    rw [upTo_none]
    isplitl [HO]
    · isplitr; · iexact Hmw
      iexists W; isplitr
      · ipureintro; exact fun p hp => .inl hp
      · iexact HO
    isplitl [Hx H5]; · isplitl [Hx]; · iexact Hx
                       iexact H5
    isplitl [Hz1 Hz2 H6 H7 H3 H4 Ho]
    · isplitl [Hz1]; · iexact Hz1
      isplitl [Hz2]; · iexact Hz2
      isplitl [H6]; · iexact H6
      isplitl [H7]; · iexact H7
      isplitl [H3]; · iexact H3
      isplitl [H4]; · iexact H4
      iexact Ho
    isplitl [Hg]; · iexact Hg
    isplitl [Ha]; · iexact Ha
    iexact Hb
  unfold End3 OW Idle XW ZP OP
  rw [upTo_all]
  iintro ⟨⟨-, %W', %hW', HO⟩, ⟨Hx, H5⟩, ⟨Hz1, Hz2, H6, H7, H3, H4, Ho⟩, Hg, Ha, Hb⟩
  ihave Hz := (pointsTo_share (PosShare.mem_left_op_right (shareOf ⟨bOf L, bOf_lt L⟩))).2 $$ [Hz1 Hz2]; · isplitl [Hz1] <;> iassumption
  isplitl [Hx Hz Ho]
  · isplitl [Hx]; · iexact Hx
    isplitl [Hz]; · iexact Hz
    iexact Ho
  isplitl [Hg Ha Hb Hbufs]
  · isplitl [Hg Ha Hb]
    · isplitl [Hg]; · iexists _; iexact Hg
      isplitl [Ha]; · iexists _; iexact Ha
      iexists _; iexact Hb
    iexact Hbufs
  isplitl [H3 H4 H5 H6 H7 Hsems]
  · isplitl [H3 H4 H5 H6 H7]
    · isplitl [H3]; · iexact H3
      isplitl [H4]; · iexact H4
      isplitl [H5]; · iexact H5
      isplitl [H6]; · iexact H6
      iexact H7
    iexact Hsems
  iexists W'; isplitr
  · ipureintro; exact hW'
  · iexact HO

/-! ## The task as the launch theorem asks for it -/

/-- The grid point of SparseCore `c`, subcore `s`. -/
def point (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (point c s) xtM (Memref.isWhole_whole _) zM (Memref.isWhole_whole _) outM (Memref.isWhole_whole _)
          xvM (Memref.isWhole_whole _) aM (Memref.isWhole_whole _) bM (Memref.isWhole_whole _) cc0_scratch3 cc0_scratch4 cc0_scratch5 cc0_scratch6 cc0_scratch7) ⟨⟩ c s := rfl

/-- The waits recorded are the task's or the kernel's. -/
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Task

set_option maxRecDepth 16384 in
theorem tileObl (hF : (K (F := F)).Facts) : (K (F := F)).TileObl (D (F := F)) 𝒱 (P X Z o) v₀ 0 := by
  intro d c i O W hO _ _
  simp only [show (P X Z o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X Z o d (point ⟨_, hci.1⟩ ⟨_, hci.2⟩) hF O W hO).trans (wp_mono frame _ _ fun _ => weaken_waits)

theorem vecSplit : (K (F := F)).VecSplit' (P X Z o) 0 := by
  intro d c
  show (bigSep Finset.univ fun s : Fin 16 => tile (X d) (Z d) d (o d) (batch (Fin.cast nCore_zero c) s)) ⊢ |={Set.univ}=> iprop(
      (bigSep Finset.univ fun i : Fin 16 => tile (X d) (Z d) d (o d) (batch (Fin.cast nCore_zero c) i))
      ∗ ((bigSep Finset.univ fun i : Fin 16 => tile (X d) (Z d) d (out X Z d) (batch (Fin.cast nCore_zero c) i))
          -∗ bigSep Finset.univ fun s : Fin 16 => tile (X d) (Z d) d (out X Z d) (batch (Fin.cast nCore_zero c) s)))
  iintro H; imodintro
  isplitl [H]; · iexact H
  iintro H; iexact H

/-! ## The batches split and join -/

theorem bSets_disjoint : ∀ i ∈ (Finset.univ : Finset (Fin 32)), ∀ j ∈ (Finset.univ : Finset (Fin 32)), i ≠ j → Disjoint (bSet i.val) (bSet j.val) := by
  intro i _ j _ h
  rw [Finset.disjoint_left]
  intro x hx hy
  unfold bSet at hx hy
  simp only [Finset.mem_filter, Finset.mem_univ, _root_.true_and] at hx hy
  exact h (Fin.ext (hx.symm.trans hy))

theorem bSets_cover : (Finset.univ : Finset (Fin 32)).biUnion (fun b => bSet b.val) = Finset.univ := by
  ext x
  simp only [Finset.mem_biUnion, Finset.mem_univ, _root_.true_and, iff_true]
  exact ⟨x 0, by unfold bSet; simp⟩

/-- The two SparseCores' sixteen subcores are the 32 batches. -/
def batchEquiv : Fin 2 × Fin 16 ≃ Fin 32 where
  toFun p := batch p.1 p.2
  invFun b := (⟨b.val % 2, by omega⟩, ⟨b.val / 2, by omega⟩)
  left_inv p := by
    obtain ⟨c, s⟩ := p
    simp only [batch, Prod.mk.injEq]
    constructor <;> apply Fin.ext <;> dsimp only <;> omega
  right_inv b := by simp only [batch]; apply Fin.ext; dsimp only; omega

/-- The input, the zeros and the output, dealt to the 32 subcores. -/
theorem dealt (d : Dev nD) (f : S32x64x8x4x8x128.Idx → F .f32) :
    (iprop((xLoc d ↦{fullShare} X d) ∗ (zLoc d ↦{fullShare} Z d) ∗ oLoc d ↦{fullShare} f) : sProp 𝕄)
      = bigSep Finset.univ fun c : Fin 2 => bigSep Finset.univ fun s : Fin 16 => tile (X d) (Z d) d f (batch c s) := by
  rw [← bigSep_univ_prod (fun p : Fin 2 × Fin 16 => tile (X d) (Z d) d f (batch p.1 p.2))]
  rw [show (fun p : Fin 2 × Fin 16 => tile (X d) (Z d) d f (batch p.1 p.2)) = fun p => tile (X d) (Z d) d f (batchEquiv p) from rfl,
    ← bigSep_univ_equiv batchEquiv (fun b => tile (X d) (Z d) d f b)]
  unfold tile
  rw [bigSep_sep', bigSep_sep', ← Transfers.pointsTo_deal Finset.univ ⟨0, Finset.mem_univ _⟩ fullShare,
    ← Transfers.pointsTo_deal Finset.univ ⟨0, Finset.mem_univ _⟩ fullShare, ← pointsTo_biUnion Finset.univ (ℓ := oLoc d) (fun b : Fin 32 => bSet b.val) bSets_disjoint, bSets_cover]

end Cert.Proof.Pyramid

end
-- ==== Proof.Launch.lean ====
module

public import proofs.«01_k».proof.Proof.Task

@[expose] public section

noncomputable section

namespace Cert.Proof.Pyramid

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xtM" => (Memref.whole Cert.KernelIdeal.main_v1_scv : Memref Cert.KernelIdeal.sig Kind.scVector Space.hbm Cert.KernelIdeal.S32x8x4x8x128 EltTy.f32)
local notation "zM" => (Memref.whole Cert.KernelIdeal.main_v2_scv : Memref Cert.KernelIdeal.sig Kind.scVector Space.hbm Cert.KernelIdeal.S32x8x8x16 EltTy.f32)
local notation "outM" => (Memref.whole Cert.KernelIdeal.main_v3_scv : Memref Cert.KernelIdeal.sig Kind.scVector Space.hbm Cert.KernelIdeal.S32x64x8x4x8x128 EltTy.f32)
local notation "xvM" => (Memref.whole Cert.KernelIdeal.cc0_scratch0 : Memref Cert.KernelIdeal.sig Kind.scVector Space.vmem Cert.KernelIdeal.S8x8x16 EltTy.f32)
local notation "aM" => (Memref.whole Cert.KernelIdeal.cc0_scratch1 : Memref Cert.KernelIdeal.sig Kind.scVector Space.vmem Cert.KernelIdeal.S32x8x8x16 EltTy.f32)
local notation "bM" => (Memref.whole Cert.KernelIdeal.cc0_scratch2 : Memref Cert.KernelIdeal.sig Kind.scVector Space.vmem Cert.KernelIdeal.S32x8x8x16 EltTy.f32)

open Idealize.ShloMosaic.StableHlo (held held_sub_split held_congr wp_hlo_within)

variable [FloatOps F]

/-! ## @main's operations and the contents they leave -/

abbrev ref (b : Ref sig .tc) : DevRef τ sig := Proc.devRef .tc b

abbrev op1 : HloOp τ sig (Elt F) := StableHlo.nullary main_c (fun i => lit0 (S64x64.rowMajor i))
abbrev op2 : HloOp τ sig (Elt F) := StableHlo.reshape main_arg0 main_v0 (rfl : (.f32 : EltTy) = .f32) shapeCasts_S32x512x64_S32x4x128x8x8
abbrev op3 : HloOp τ sig (Elt F) := StableHlo.unary main_v0 main_v1 ((transpose S32x8x4x8x128 [0, 3, 1, 4, 2] · transposes_S32x4x128x8x8_S32x8x4x8x128_0_3_1_4_2) : (⟨S32x4x128x8x8, .f32⟩ : BufTy).Contents (Elt F) → (⟨S32x8x4x8x128, .f32⟩ : BufTy).Contents (Elt F))
abbrev op4 : HloOp τ sig (Elt F) := StableHlo.nullary main_cst (constant S_ .f32 0x00000000#32)
abbrev op5 : HloOp τ sig (Elt F) := StableHlo.unary main_cst main_v2 (broadcastInDim S32x8x8x16 ![] bcast_S_S32x8x8x16 : (⟨S_, .f32⟩ : BufTy).Contents (Elt F) → (⟨S32x8x8x16, .f32⟩ : BufTy).Contents (Elt F))
abbrev op6 : HloOp τ sig (Elt F) := StableHlo.unary main_v3 main_v4 ((transpose S32x4x128x64x8x8 [0, 3, 5, 1, 2, 4] · transposes_S32x64x8x4x8x128_S32x4x128x64x8x8_0_3_5_1_2_4) : (⟨S32x64x8x4x8x128, .f32⟩ : BufTy).Contents (Elt F) → (⟨S32x4x128x64x8x8, .f32⟩ : BufTy).Contents (Elt F))
abbrev op7 : HloOp τ sig (Elt F) := StableHlo.reshape main_v4 main_v5 (rfl : (.f32 : EltTy) = .f32) shapeCasts_S32x4x128x64x8x8_S32x512x64x64
abbrev op8 : HloOp τ sig (Elt F) := StableHlo.unary main_c main_v6 (broadcastInDim S1x1x64x64 ![2, 3] bcast_S64x64_S1x1x64x64_2_3 : (⟨S64x64, .i1⟩ : BufTy).Contents (Elt F) → (⟨S1x1x64x64, .i1⟩ : BufTy).Contents (Elt F))
abbrev op9 : HloOp τ sig (Elt F) := StableHlo.unary main_v6 main_v7 (broadcastInDim S32x1x64x64 ![0, 1, 2, 3] bcast_S1x1x64x64_S32x1x64x64_0_1_2_3 : (⟨S1x1x64x64, .i1⟩ : BufTy).Contents (Elt F) → (⟨S32x1x64x64, .i1⟩ : BufTy).Contents (Elt F))

variable (m : (ℓ : Loc nD τ sig) → Buf (Elt F) ℓ) (ρ : Dev nD → PrngReg)

/-- The launch's contents; the contents the kernel starts from; those it ends with; and those the program ends with. -/
def atStart (d : Dev nD) : Valuation τ sig (Elt F) := fun b => m (d, b)
abbrev atCall (d : Dev nD) : Valuation τ sig (Elt F) := op5.result (op4.result (op3.result (op2.result (op1.result (atStart m d)))))
def xIn (d : Dev nD) : S32x8x4x8x128.Idx → F .f32 := atCall m d (ref main_v1)
def zIn (d : Dev nD) : S32x8x8x16.Idx → F .f32 := atCall m d (ref main_v2)
def oIn (d : Dev nD) : S32x64x8x4x8x128.Idx → F .f32 := atCall m d (ref main_v3)
def called (d : Dev nD) : Valuation τ sig (Elt F) := Function.update (atCall m d) (ref main_v3) (stamped (xIn m d) (zIn m d))
abbrev atEnd (d : Dev nD) : Valuation τ sig (Elt F) := op9.result (op8.result (op7.result (op6.result (called m d))))

/-- The TensorCore's arrays. -/
abbrev arrays : Finset (DevRef τ sig) :=
  {ref main_arg0, ref main_c, ref main_v0, ref main_v1, ref main_cst, ref main_v2, ref main_v3, ref main_v4, ref main_v5, ref main_v6, ref main_v7}

/-- Those the kernel reads and writes. -/
abbrev ofKernel : Finset (DevRef τ sig) := {ref main_v1, ref main_v2, ref main_v3}

omit [FloatOps F] in
theorem unscoped_held (d : Dev nD) : (unscopedBufs d (fun b => m ((SparseCore.T d).loc b)) : sProp 𝕄) = held (T d) arrays (atStart m d) := by
  unfold unscopedBufs held
  rw [show arrays = (Finset.univ.filter fun b : Ref sig .tc => ¬ b.isScoped).map ⟨Proc.devRef .tc, Proc.devRef_injective _⟩ by decide, bigSep_map]
  rfl

omit [FloatOps F] in
theorem held_kernel (d : Dev nD) (W : Valuation τ sig (Elt F)) :
    (held (T d) ofKernel W : sProp 𝕄) = iprop((xLoc d ↦{fullShare} W (ref main_v1)) ∗ (zLoc d ↦{fullShare} W (ref main_v2)) ∗ oLoc d ↦{fullShare} W (ref main_v3)) := by
  unfold held
  rw [SparseCore.bigSep_insert' (by decide), SparseCore.bigSep_insert' (by decide), bigSep_singleton]

theorem called_of_ne (d : Dev nD) {b : DevRef τ sig} (h : b ≠ ref main_v3) : called m d b = atCall m d b := Function.update_of_ne h _ _
theorem called_out (d : Dev nD) : called m d (ref main_v3) = stamped (xIn m d) (zIn m d) := Function.update_self _ _ _

/-- What the call takes. -/
theorem to_call (d : Dev nD) : (held (T d) arrays (atCall m d) : sProp 𝕄)
    = iprop((bigSep Finset.univ fun c : Fin 2 => (P (xIn m) (zIn m) (oIn m)).st 0 d c) ∗ held (T d) (arrays \ ofKernel) (atCall m d)) := by
  rw [held_sub_split _ (show ofKernel ⊆ arrays by decide), held_kernel]
  exact congrArg (fun R => iprop(R ∗ held (T d) (arrays \ ofKernel) (atCall m d))) (dealt (xIn m) (zIn m) d (oIn m d))

/-- What it hands back. -/
theorem of_call (d : Dev nD) : (held (T d) arrays (called m d) : sProp 𝕄)
    = iprop((bigSep Finset.univ fun c : Fin 2 => (P (xIn m) (zIn m) (oIn m)).dn 0 d c) ∗ held (T d) (arrays \ ofKernel) (atCall m d)) := by
  rw [held_sub_split _ (show ofKernel ⊆ arrays by decide), held_kernel, called_out, called_of_ne m d (show ref main_v1 ≠ ref main_v3 by decide),
    called_of_ne m d (show ref main_v2 ≠ ref main_v3 by decide),
    held_congr _ (S := arrays \ ofKernel) (V := called m d) (V' := atCall m d) (fun b hb => called_of_ne m d (fun e => by subst e; revert hb; decide))]
  exact congrArg (fun R => iprop(R ∗ held (T d) (arrays \ ofKernel) (atCall m d))) (dealt (xIn m) (zIn m) d (out (xIn m) (zIn m) d))

/-! ## The launch element of the ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (xIn m) (zIn m) (oIn m)).x q thr) := by
  rw [show (bigSep Finset.univ fun thr : Thread nD τ => bigSep Finset.univ fun q : Fin 1 => (P (xIn m) (zIn m) (oIn m)).x q thr) = (iprop(emp) : sProp 𝕄) from
    (bigSep_congr fun _ _ => bigSep_emp_const _).trans (bigSep_emp_const _), show (bigSep Finset.univ fun _ : Dev nD => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main on the TensorCore -/

abbrev FIN (d : Dev nD) : sProp 𝕄 := held (T d) arrays (atEnd m d)

/-- @main on device `d`'s TensorCore, operation by operation, with every array's contents kept. -/
theorem hmain (κ : GSem nD τ sig → ℕ) (d : Dev nD) :
    iprop((K (F := F)).ctx EH (P (xIn m) (zIn m) (oIn m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, -⟩
  iapply (wp_hlo_within 𝒱 (SparseCore.T d) none Set.univ (op := op1) (S := arrays) (show ({ref main_c} : Finset (DevRef τ sig)) ⊆ arrays by decide) (V := atStart m d)) $$ [Hb Hh]
  · isplitl [Hb] <;> iassumption
  iintro ⟨Hb, Hh⟩
  rw [wp_ret]; imodintro
  iapply (wp_hlo_within 𝒱 (SparseCore.T d) none Set.univ (op := op2) (S := arrays) (show ({ref main_arg0, ref main_v0} : Finset (DevRef τ sig)) ⊆ arrays by decide) (V := op1.result (atStart m d))) $$ [Hb Hh]
  · isplitl [Hb] <;> iassumption
  iintro ⟨Hb, Hh⟩
  rw [wp_ret]; imodintro
  iapply (wp_hlo_within 𝒱 (SparseCore.T d) none Set.univ (op := op3) (S := arrays) (show ({ref main_v0, ref main_v1} : Finset (DevRef τ sig)) ⊆ arrays by decide) (V := op2.result (op1.result (atStart m d)))) $$ [Hb Hh]
  · isplitl [Hb] <;> iassumption
  iintro ⟨Hb, Hh⟩
  rw [wp_ret]; imodintro
  iapply (wp_hlo_within 𝒱 (SparseCore.T d) none Set.univ (op := op4) (S := arrays) (show ({ref main_cst} : Finset (DevRef τ sig)) ⊆ arrays by decide) (V := op3.result (op2.result (op1.result (atStart m d))))) $$ [Hb Hh]
  · isplitl [Hb] <;> iassumption
  iintro ⟨Hb, Hh⟩
  rw [wp_ret]; imodintro
  iapply (wp_hlo_within 𝒱 (SparseCore.T d) none Set.univ (op := op5) (S := arrays) (show ({ref main_cst, ref main_v2} : Finset (DevRef τ sig)) ⊆ arrays by decide) (V := op4.result (op3.result (op2.result (op1.result (atStart m d)))))) $$ [Hb Hh]
  · isplitl [Hb] <;> iassumption
  iintro ⟨Hb, Hh⟩
  rw [wp_ret]; imodintro
  ihave Hh := (ent (to_call m d)) $$ Hh
  icases Hh with ⟨Hgo, Hrest⟩
  iapply ((K (F := F)).wp_run (D (F := F)) 𝒱 (EH := EH) (P := P (xIn m) (zIn m) (oIn m)) κ d 0) $$ [Hst Hgo Hb Hrest Hts]
  isplitr; · iexact Hctx
  isplitl [Hst]; · iexact Hst
  isplitl [Hgo]; · iexact Hgo
  iintro ⟨Hst, Hdn⟩
  ihave Hh := (ent (of_call m d).symm) $$ [Hdn Hrest]
  · isplitl [Hdn]; · iexact Hdn
    iexact Hrest
  iapply (wp_hlo_within 𝒱 (SparseCore.T d) none Set.univ (op := op6) (S := arrays) (show ({ref main_v3, ref main_v4} : Finset (DevRef τ sig)) ⊆ arrays by decide) (V := called m d)) $$ [Hb Hh]
  · isplitl [Hb] <;> iassumption
  iintro ⟨Hb, Hh⟩
  rw [wp_ret]; imodintro
  iapply (wp_hlo_within 𝒱 (SparseCore.T d) none Set.univ (op := op7) (S := arrays) (show ({ref main_v4, ref main_v5} : Finset (DevRef τ sig)) ⊆ arrays by decide) (V := op6.result (called m d))) $$ [Hb Hh]
  · isplitl [Hb] <;> iassumption
  iintro ⟨Hb, Hh⟩
  rw [wp_ret]; imodintro
  iapply (wp_hlo_within 𝒱 (SparseCore.T d) none Set.univ (op := op8) (S := arrays) (show ({ref main_c, ref main_v6} : Finset (DevRef τ sig)) ⊆ arrays by decide) (V := op7.result (op6.result (called m d)))) $$ [Hb Hh]
  · isplitl [Hb] <;> iassumption
  iintro ⟨Hb, Hh⟩
  rw [wp_ret]; imodintro
  iapply (wp_hlo_within 𝒱 (SparseCore.T d) none Set.univ (op := op9) (S := arrays) (show ({ref main_v6, ref main_v7} : Finset (DevRef τ sig)) ⊆ arrays by decide) (V := op8.result (op7.result (op6.result (called m d))))) $$ [Hb Hh]
  · isplitl [Hb] <;> iassumption
  iintro ⟨Hb, Hh⟩
  rw [wp_ret]; imodintro; imodintro
  isplitl [Hst]; · iexact Hst
  isplitl [Hh]; · iexact Hh
  isplitl [Hb] <;> iassumption

/-- The memory holds the arrays' last contents. -/
def fq (d : Dev nD) (s' : Phys nD τ sig (Elt F)) : Prop := ∀ b ∈ arrays, s'.mem.mem (d, b) = atEnd m d b

omit [FloatOps F] in
/-- An array held is what the memory has at its place. -/
theorem agree (d : Dev nD) (V : Valuation τ sig (Elt F)) (s' : Phys nD τ sig (Elt F)) (S : Finset (DevRef τ sig)) :
    iprop(held (T d) S V ∗ SI s') ⊢ (⌜∀ b ∈ S, s'.mem.mem (d, b) = V b⌝ : sProp 𝕄) := by
  induction S using Finset.induction_on with
  | empty => iintro -; ipureintro; exact fun b hb => absurd hb (Finset.notMem_empty b)
  | insert b S hb ih =>
    rw [show (held (T d) (insert b S) V : sProp 𝕄) = iprop((((d, b) : Loc nD τ sig) ↦{fullShare} V b) ∗ held (T d) S V) from SparseCore.bigSep_insert' hb]
    iintro ⟨⟨Hb, HS⟩, HSI⟩
    ihave H := (persistent_entails_right (SI_pointsTo_agree (st := s') (ℓ := ((d, b) : Loc nD τ sig)) (I := Finset.univ) (q := fullShare) (f := V b))) $$ [HSI Hb]
    · isplitl [HSI] <;> iassumption
    icases H with ⟨%h1, HSI, -⟩
    ihave H := ih $$ [HSI HS]
    · isplitl [HS] <;> iassumption
    icases H with %h2
    ipureintro
    intro b' hb'
    rcases Finset.mem_insert.mp hb' with rfl | h
    · exact funext fun i => h1 i (Finset.mem_univ i)
    · exact h2 b' h

/-! ## The program's run -/

/-- How the program ends: every array at its last contents, every semaphore at zero. -/
def Ends : PUnit × MemSt nD τ sig (Elt F) → Prop := fun r => (∀ (d : Dev nD), ∀ b ∈ arrays, r.2.mem (d, b) = atEnd m d b) ∧ r.2.sem = fun _ => 0

theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P (xIn m) (zIn m) (oIn m)) (A := ∅) facts v₀
    (fun q hq => match q with | 0 => nomatch hq)
    (fun q _ => match q with | 0 => tileObl (xIn m) (zIn m) (oIn m) facts)
    (fun q _ => match q with | 0 => SparseCore.Cfg.VecSplit.of_plain (vecSplit (xIn m) (zIn m) (oIn m)))
    m ρ main (fun _ => iprop(emp)) (FIN m) (u₀ (F := F)) (sep_elim_left.trans (hu₀ m)) (hmain m ρ) (fq m)
    (fun d s' => agree d (atEnd m d) s' arrays) (Ends m) (fun _ h hz => ⟨h, hz⟩)

/-- No operation writes the argument. -/
theorem atEnd_arg (d : Dev nD) : atEnd m d (ref main_arg0) = m (d, ref main_arg0) := by
  unfold atEnd
  rw [op9.result_of_not_mem _ (show ref main_arg0 ∉ ({ref main_v7} : Finset (DevRef τ sig)) by decide), op8.result_of_not_mem _ (show ref main_arg0 ∉ ({ref main_v6} : Finset (DevRef τ sig)) by decide),
    op7.result_of_not_mem _ (show ref main_arg0 ∉ ({ref main_v5} : Finset (DevRef τ sig)) by decide), op6.result_of_not_mem _ (show ref main_arg0 ∉ ({ref main_v4} : Finset (DevRef τ sig)) by decide),
    called_of_ne m d (by decide)]
  unfold atCall
  rw [op5.result_of_not_mem _ (show ref main_arg0 ∉ ({ref main_v2} : Finset (DevRef τ sig)) by decide), op4.result_of_not_mem _ (show ref main_arg0 ∉ ({ref main_cst} : Finset (DevRef τ sig)) by decide),
    op3.result_of_not_mem _ (show ref main_arg0 ∉ ({ref main_v1} : Finset (DevRef τ sig)) by decide), op2.result_of_not_mem _ (show ref main_arg0 ∉ ({ref main_v0} : Finset (DevRef τ sig)) by decide),
    op1.result_of_not_mem _ (show ref main_arg0 ∉ ({ref main_c} : Finset (DevRef τ sig)) by decide)]
  rfl

end Cert.Proof.Pyramid

end
-- ==== Proof.Frames.lean ====
/-
  The three programs run, leave their argument as it was, and end with every semaphore at zero.
-/
module

public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof.Pyramid

open Idealize.ShloMosaic Idealize.SL.Sem

/-- The kernel read at the ideal floats. -/
theorem frame_ideal : Cert.quiescent_KernelIdeal := fun m ρ _ =>
  (θ_run Cert.KernelIdeal.defs _ _).mono (fun _ h => ⟨fun d => (h.1 d (ref Cert.KernelIdeal.main_arg0) (by decide)).trans (atEnd_arg m d), h.2⟩)
    (run_main (F := Ideal) m ρ)

/-- The kernel at its own words. -/
theorem frame_kernel : Cert.quiescent_Kernel := fun m ρ _ =>
  (θ_run Cert.KernelIdeal.defs _ _).mono (fun _ h => ⟨fun d => (h.1 d (ref Cert.KernelIdeal.main_arg0) (by decide)).trans (atEnd_arg m d), h.2⟩)
    (run_main (F := Bits) m ρ)

/-- The reference, which has no semaphore. -/
theorem frame_reference : Cert.quiescent_ReferenceIdeal := fun m ρ _ =>
  (θ_run Cert.ReferenceIdeal.defs _ _).mono (fun r h => ⟨fun d => (h d).2.2, sem_eq_zero_of_no_sems (by decide) r.2⟩)
    (Cert.ReferenceIdeal.Value.run (F := Ideal) m ρ)

end Cert.Proof.Pyramid

end
-- ==== Proof.Levels.lean ====
/-
  The reference builds the map level by level: a level's windows are pooled from the level below, and set at the
  positions that the level takes. Here is one level, at any size: `Pooled X l f` says that the array `f` holds level
  `l`'s window maxima of the input `X`, and `Set X n f` that the map `f` holds those of the levels below `n`
  at their positions and zero elsewhere.
-/
module

public import proofs.«01_k».proof.Proof.Steps
public import proofs.«01_k».proof.Proof.Gen.ReferenceIdeal
public import Idealize.ShloMosaic.Lib.Routing.OpsSet
public import Idealize.ShloMosaic.Lib.Routing.OpsPair
public import Idealize.ShloMosaic.Lib.Pipeline.Value

@[expose] public section

noncomputable section

namespace Cert.Proof.Pyramid

open Idealize.ShloMosaic
open Idealize.ShloMosaic.Routing (resultIdx?_eq_some scatter_set_hit scatter_set_miss)

/-- The arrays of a level of `n` windows: their maxima, their positions. -/
abbrev Pools (n : ℕ) : Shape := ⟨3, ![32, 512, n]⟩
abbrev Words (n : ℕ) : Shape := ⟨1, ![n]⟩
abbrev Column (n : ℕ) : Shape := ⟨2, ![n, 1]⟩
abbrev Pairs (n : ℕ) : Shape := ⟨2, ![n, 2]⟩
abbrev Map : Shape := ⟨4, ![32, 512, 64, 64]⟩
abbrev Scalar0 : Shape := ⟨0, ![]⟩

/-- Entry `c` of position pair `t`. -/
def pair {n : ℕ} (t : Fin n) (c : Fin 2) : (Pairs n).Idx := fun a => match a with | 0 => t | 1 => c
def single {n : ℕ} (t : Fin n) : (Words n).Idx := fun a => match a with | 0 => t
def column {n : ℕ} (t : Fin n) : (Column n).Idx := fun a => match a with | 0 => t | 1 => (0 : Fin 1)
def pool {n : ℕ} (b : Fin 32) (c : Fin 512) (t : Fin n) : (Pools n).Idx := fun a => match a with | 0 => b | 1 => c | 2 => t

theorem pool_eta {n : ℕ} (k : (Pools n).Idx) : pool (k 0) (k 1) (k 2) = k := by
  funext a; match a with | 0 => rfl | 1 => rfl | 2 => rfl

/-! ## Where an update lands -/

/-- Update `k` lands at `x` exactly when they agree on the batch and the channel and the update's two words are `x`'s row and
    column. -/
theorem lands {n : ℕ} (d : ScatterDims Map (Pairs n) (Pools n)) (hu : d.updateWindowDims = [0, 1]) (hi : d.insertedWindowDims = [2, 3])
    (hs : d.scatterDimsToOperandDims = [2, 3]) (hv : d.indexVectorDim = 1) (idx : IVec (Pairs n) 32) (k : (Pools n).Idx) (x : Map.Idx) :
    d.resultIdx? k idx = some x ↔ (k 0).val = (x 0).val ∧ (k 1).val = (x 1).val
      ∧ (idx (pair (k 2) 0)).toInt = ((x 2).val : Int) ∧ (idx (pair (k 2) 1)).toInt = ((x 3).val : Int) := by
  obtain ⟨u, i, s, v, wf⟩ := d
  dsimp only at hu hi hs hv
  subst hu hi hs hv
  rw [resultIdx?_eq_some]
  have w0 : ScatterDims.window ⟨[0, 1], [2, 3], [2, 3], 1, wf⟩ k 0 = (k 0).val := rfl
  have w1 : ScatterDims.window ⟨[0, 1], [2, 3], [2, 3], 1, wf⟩ k 1 = (k 1).val := rfl
  have w2 : ScatterDims.window ⟨[0, 1], [2, 3], [2, 3], 1, wf⟩ k 2 = 0 := rfl
  have w3 : ScatterDims.window ⟨[0, 1], [2, 3], [2, 3], 1, wf⟩ k 3 = 0 := rfl
  have s0 : ScatterDims.start ⟨[0, 1], [2, 3], [2, 3], 1, wf⟩ k idx 0 = 0 := rfl
  have s1 : ScatterDims.start ⟨[0, 1], [2, 3], [2, 3], 1, wf⟩ k idx 1 = 0 := rfl
  have s2 : ScatterDims.start ⟨[0, 1], [2, 3], [2, 3], 1, wf⟩ k idx 2 = (idx (pair (k 2) 0)).toInt := by
    refine congrArg (fun z => (idx z).toInt) (funext fun a => ?_)
    match a with | 0 => rfl | 1 => rfl
  have s3 : ScatterDims.start ⟨[0, 1], [2, 3], [2, 3], 1, wf⟩ k idx 3 = (idx (pair (k 2) 1)).toInt := by
    refine congrArg (fun z => (idx z).toInt) (funext fun a => ?_)
    match a with | 0 => rfl | 1 => rfl
  constructor
  · intro h
    have h0 := h 0; have h1 := h 1; have h2 := h 2; have h3 := h 3
    rw [w0, s0] at h0; rw [w1, s1] at h1; rw [w2, s2] at h2; rw [w3, s3] at h3
    exact ⟨by omega, by omega, by omega, by omega⟩
  · rintro ⟨h0, h1, h2, h3⟩ a
    match a with
    | 0 => rw [w0, s0]; omega
    | 1 => rw [w1, s1]; omega
    | 2 => rw [w2, s2]; omega
    | 3 => rw [w3, s3]; omega

/-! ## The words of a level's positions -/

/-- A table of positions as the reference prepares it: a negative word counts from the end, and the words stand in a column. -/
abbrev prepared {n : ℕ} (a : IVec (Words n) 32) (h0 h1 : Scalar0.BroadcastsInDim (Words n) ![]) (h : (Words n).BroadcastsInDim (Column n) ![0]) :
    IVec (Column n) 32 :=
  broadcastInDim (Column n) ![0] h (select (cmpi .slt a (broadcastInDim (Words n) ![] h0 (constantI Scalar0 32 0#32)))
    (addi a (broadcastInDim (Words n) ![] h1 (constantI Scalar0 32 64#32))) a)

/-- A word that is not negative stands as it is. -/
theorem prepared_apply {n : ℕ} (a : IVec (Words n) 32) (h0 h1 : Scalar0.BroadcastsInDim (Words n) ![]) (h : (Words n).BroadcastsInDim (Column n) ![0])
    (t : Fin n) (k : ℕ) (hk : k < 64) (ha : a (single t) = BitVec.ofNat 32 k) : prepared a h0 h1 h (column t) = BitVec.ofNat 32 k := by
  unfold prepared
  rw [broadcastInDim_apply _ h _ _ (single t)]
  · show (if IntOp.cmpi .slt (a (single t)) 0#32 = 1#1 then _ else a (single t)) = _
    rw [ha, if_neg]
    clear ha; revert k; decide
  · intro a
    match a with
    | 0 =>
      show t.val = if n = 1 then 0 else t.val
      split
      · have := t.isLt; omega
      · rfl

/-- The two columns side by side. -/
abbrev positions {n : ℕ} (a b : IVec (Words n) 32) (h0 h1 h2 h3 : Scalar0.BroadcastsInDim (Words n) ![]) (ha hb : (Words n).BroadcastsInDim (Column n) ![0])
    (hc : Shape.Concatenates [Column n, Column n] (Pairs n) 1) : IVec (Pairs n) 32 :=
  concatenate (Pairs n) 1 [⟨Column n, prepared a h0 h1 ha⟩, ⟨Column n, prepared b h2 h3 hb⟩] hc

theorem positions_fst {n : ℕ} (a b : IVec (Words n) 32) (h0 h1 h2 h3 : Scalar0.BroadcastsInDim (Words n) ![]) (ha hb : (Words n).BroadcastsInDim (Column n) ![0])
    (hc : Shape.Concatenates [Column n, Column n] (Pairs n) 1) (t : Fin n) (k : ℕ) (hk : k < 64) (hw : a (single t) = BitVec.ofNat 32 k) :
    (positions a b h0 h1 h2 h3 ha hb hc (pair t 0)).toInt = (k : Int) := by
  rw [show positions a b h0 h1 h2 h3 ha hb hc (pair t 0) = BitVec.ofNat 32 k from
    (concatenate_pair_apply_left (t := Pairs n) (s₁ := Column n) (s₂ := Column n) 1 _ _ hc (pair t 0) rfl (column t)
      (fun b => match b with | 0 => rfl | 1 => rfl)).trans (prepared_apply a h0 h1 ha t k hk hw)]
  clear hw; revert k; decide

theorem positions_snd {n : ℕ} (a b : IVec (Words n) 32) (h0 h1 h2 h3 : Scalar0.BroadcastsInDim (Words n) ![]) (ha hb : (Words n).BroadcastsInDim (Column n) ![0])
    (hc : Shape.Concatenates [Column n, Column n] (Pairs n) 1) (t : Fin n) (k : ℕ) (hk : k < 64) (hw : b (single t) = BitVec.ofNat 32 k) :
    (positions a b h0 h1 h2 h3 ha hb hc (pair t 1)).toInt = (k : Int) := by
  rw [show positions a b h0 h1 h2 h3 ha hb hc (pair t 1) = BitVec.ofNat 32 k from
    (concatenate_pair_apply_right (t := Pairs n) (s₁ := Column n) (s₂ := Column n) 1 _ _ hc (pair t 1) rfl rfl (column t)
      (fun b hb => match b with | 0 => rfl | 1 => absurd rfl hb) rfl).trans (prepared_apply b h2 h3 hb t k hk hw)]
  clear hw; revert k; decide

/-- A literal table read at a position. -/
theorem table {n : ℕ} (l : Fin (Words n).numel → BitVec 32) (p : ℕ → ℕ) (h : ∀ t, l t = BitVec.ofNat 32 (p t.val)) (t : Fin n) :
    l ((Words n).rowMajor (single t)) = BitVec.ofNat 32 (p t.val) := by
  rw [h, Shape.rowMajor_val_one]; rfl

/-! ## A level -/

variable (X : (Pools 64).Idx → Ideal .f32)

/-- The input at batch `b`, channel `c`, position `t`, as a row that is the same in every lane. -/
def clip (b : Fin 32) (c : Fin 512) (t : ℕ) : FVec Ideal Cert.KernelIdeal.S16 .f32 := fun _ => X (pool b c ⟨t % 64, Nat.mod_lt _ (by decide)⟩)

/-- The maximum over window `t` of level `l`, for batch `b` and channel `c`. -/
def peak (b : Fin 32) (c : Fin 512) (l t : ℕ) : Ideal .f32 := lv (clip X b c) l t (lane 0)

theorem peak_congr {X : (Pools 64).Idx → Ideal .f32} {b b' : Fin 32} {c c' : Fin 512} {l t t' : ℕ} (hb : b = b') (hc : c = c') (ht : t = t') :
    peak X b c l t = peak X b' c' l t' := by subst hb hc ht; rfl

/-- `f` holds the maxima of level `l`'s windows. -/
def Pooled (l : ℕ) {n : ℕ} (f : (Pools n).Idx → Ideal .f32) : Prop := ∀ b c (t : Fin n), f (pool b c t) = peak X b c l t.val

/-- `f` holds the maxima of the levels below `n` at their positions, zero elsewhere. -/
def Stored (n : ℕ) (f : Map.Idx → Ideal .f32) : Prop :=
  ∀ x, f x = match slot (x 2).val (x 3).val with
    | none => (0 : EReal)
    | some p => if p.1 < n then peak X (x 0) (x 1) p.1 p.2 else (0 : EReal)

theorem pooled_zero : Pooled X 0 X := by
  intro b c t
  unfold peak
  rw [lv_zero]
  exact congrArg (fun s => X (pool b c s)) (Fin.ext (Nat.mod_eq_of_lt t.isLt).symm)

theorem stored_zero (f : Map.Idx → Ideal .f32) (h : ∀ x, f x = (0 : EReal)) : Stored X 0 f := by
  intro x
  rw [h]
  split
  · rfl
  · rw [if_neg (Nat.not_lt_zero _)]

/-- The positions of a level's windows are in the map. -/
theorem pos_lt {l t : ℕ} (hl : l < 32) (ht : t < size l) : (pos l t).1 < 64 ∧ (pos l t).2 < 64 := by
  unfold size at ht
  unfold pos
  split_ifs at ht ⊢ <;> dsimp only <;> omega

/-- One level set over the levels below it. -/
theorem Stored.level {X : (Pools 64).Idx → Ideal .f32} {n l : ℕ} {prev : Map.Idx → Ideal .f32} {cur : (Pools n).Idx → Ideal .f32}
    (d : ScatterDims Map (Pairs n) (Pools n)) (hu : d.updateWindowDims = [0, 1]) (hi : d.insertedWindowDims = [2, 3])
    (hs : d.scatterDimsToOperandDims = [2, 3]) (hv : d.indexVectorDim = 1) (hn : n = size l) (hl : l < 32)
    {a b : IVec (Words n) 32} {h0 h1 h2 h3 : Scalar0.BroadcastsInDim (Words n) ![]} {ha hb : (Words n).BroadcastsInDim (Column n) ![0]}
    {hc : Shape.Concatenates [Column n, Column n] (Pairs n) 1}
    (hwa : ∀ t : Fin n, a (single t) = BitVec.ofNat 32 (pos l t.val).1) (hwb : ∀ t : Fin n, b (single t) = BitVec.ofNat 32 (pos l t.val).2)
    (hprev : Stored X l prev) (hcur : Pooled X l cur) :
    Stored X (l + 1) (Host.scatter d (fun _ b => b) prev (positions a b h0 h1 h2 h3 ha hb hc) cur) := by
  intro x
  have x2 : (x 2).val < 64 := (x 2).isLt
  have x3 : (x 3).val < 64 := (x 3).isLt
  have key : ∀ k : (Pools n).Idx, d.resultIdx? k (positions a b h0 h1 h2 h3 ha hb hc) = some x
      ↔ (k 0).val = (x 0).val ∧ (k 1).val = (x 1).val ∧ (pos l (k 2).val).1 = (x 2).val ∧ (pos l (k 2).val).2 = (x 3).val := fun k => by
    have hk := pos_lt hl (hn ▸ (k 2).isLt : (k 2).val < size l)
    rw [lands d hu hi hs hv, positions_fst a b h0 h1 h2 h3 ha hb hc (k 2) _ hk.1 (hwa (k 2)), positions_snd a b h0 h1 h2 h3 ha hb hc (k 2) _ hk.2 (hwb (k 2))]
    simp only [Nat.cast_inj]
  by_cases hx : ∃ t : ℕ, slot (x 2).val (x 3).val = some (l, t)
  · obtain ⟨t, ht⟩ := hx
    obtain ⟨hp, -, hlt⟩ := pos_of_slot ht
    have htn : t < n := hn ▸ hlt x3
    rw [ht]
    dsimp only
    rw [if_pos (Nat.lt_succ_self l)]
    refine scatter_set_hit d prev _ cur x _ (fun k hk => ?_) (pool (x 0) (x 1) ⟨t, htn⟩) ((key _).2 ⟨rfl, rfl, ?_, ?_⟩)
    · obtain ⟨e0, e1, e2, e3⟩ := (key k).1 hk
      refine ((congrArg cur (pool_eta k)).symm.trans (hcur (k 0) (k 1) (k 2))).trans ?_
      have : slot (pos l (k 2).val).1 (pos l (k 2).val).2 = some (l, (k 2).val) := slot_pos hl
      rw [e2, e3, ht] at this
      simp only [Option.some.injEq, Prod.mk.injEq, _root_.true_and] at this
      exact peak_congr (Fin.ext e0) (Fin.ext e1) this.symm
    · show (pos l t).1 = _; rw [hp]
    · show (pos l t).2 = _; rw [hp]
  · rw [scatter_set_miss d prev _ cur x (fun k hk => ?_), hprev]
    · split
      · rfl
      · rename_i p hp
        have : p.1 ≠ l := fun e => hx ⟨p.2, by rw [hp, ← e]⟩
        by_cases h : p.1 < l
        · rw [if_pos h, if_pos (by omega)]
        · rw [if_neg h, if_neg (by omega)]
    · obtain ⟨e0, e1, e2, e3⟩ := (key k).1 hk
      exact hx ⟨(k 2).val, by rw [← e2, ← e3]; exact slot_pos hl⟩

/-- One level, its positions read off two literal tables. -/
theorem Stored.tables {X : (Pools 64).Idx → Ideal .f32} {n l : ℕ} {prev : Map.Idx → Ideal .f32} {cur : (Pools n).Idx → Ideal .f32}
    {d : ScatterDims Map (Pairs n) (Pools n)} {a b : IVec (Words n) 32} {h0 h1 h2 h3 : Scalar0.BroadcastsInDim (Words n) ![]}
    {ha hb : (Words n).BroadcastsInDim (Column n) ![0]} {hc : Shape.Concatenates [Column n, Column n] (Pairs n) 1} (hcur : Pooled X l cur)
    (hu : d.updateWindowDims = [0, 1]) (hi : d.insertedWindowDims = [2, 3]) (hs : d.scatterDimsToOperandDims = [2, 3]) (hv : d.indexVectorDim = 1)
    (hn : n = size l) (hl : l < 32) {la lb : Fin (Words n).numel → BitVec 32} (ea : ∀ i, a i = la ((Words n).rowMajor i))
    (eb : ∀ i, b i = lb ((Words n).rowMajor i)) (ta : ∀ t, la t = BitVec.ofNat 32 (pos l t.val).1) (tb : ∀ t, lb t = BitVec.ofNat 32 (pos l t.val).2)
    (hprev : Stored X l prev) : Stored X (l + 1) (Host.scatter d (fun _ b => b) prev (positions a b h0 h1 h2 h3 ha hb hc) cur) :=
  hprev.level d hu hi hs hv hn hl (fun t => (ea _).trans (table la (fun t => (pos l t).1) ta t))
    (fun t => (eb _).trans (table lb (fun t => (pos l t).2) tb t)) hcur

/-! ## Pooling a level from the one below -/

/-- The pools' initial value is the least number. -/
theorem least (h : Scalar0.BroadcastsInDim Scalar0 ![]) (i : Scalar0.Idx) :
    broadcastInDim Scalar0 ![] h (constant (F := Ideal) Scalar0 .f32 0xFF800000#32) i = (⊥ : EReal) := by
  show Ideal.ofBits .f32 0xFF800000#32 = _
  simp [Ideal.ofBits, Ideal.ieee]

/-- The number of a position within a window that runs along the last axis. -/
theorem along {k : ℕ} (m : Fin (Shape.numel ⟨3, ![1, 1, k]⟩)) :
    ((Shape.rowMajor ⟨3, ![1, 1, k]⟩).symm m 0).val = 0 ∧ ((Shape.rowMajor ⟨3, ![1, 1, k]⟩).symm m 1).val = 0
      ∧ ((Shape.rowMajor ⟨3, ![1, 1, k]⟩).symm m 2).val = m.val ∧ m.val < k := by
  have e := Shape.rowMajor_val_three (d := ![1, 1, k]) ((Shape.rowMajor ⟨3, ![1, 1, k]⟩).symm m)
  rw [Equiv.apply_symm_apply] at e
  have h0 : ((Shape.rowMajor ⟨3, ![1, 1, k]⟩).symm m 0).val < 1 := ((Shape.rowMajor ⟨3, ![1, 1, k]⟩).symm m 0).isLt
  have h1 : ((Shape.rowMajor ⟨3, ![1, 1, k]⟩).symm m 1).val < 1 := ((Shape.rowMajor ⟨3, ![1, 1, k]⟩).symm m 1).isLt
  have h2 : ((Shape.rowMajor ⟨3, ![1, 1, k]⟩).symm m 2).val < k := ((Shape.rowMajor ⟨3, ![1, 1, k]⟩).symm m 2).isLt
  have z0 : ((Shape.rowMajor ⟨3, ![1, 1, k]⟩).symm m 0).val = 0 := by omega
  have z1 : ((Shape.rowMajor ⟨3, ![1, 1, k]⟩).symm m 1).val = 0 := by omega
  rw [z0, z1] at e
  simp only [Nat.zero_mul, Nat.zero_add] at e
  exact ⟨z0, z1, e.symm, e ▸ h2⟩

/-- A pool of `k` neighbours, `s` apart, is the fold of the maximum over the neighbours. -/
theorem pooled_fold {n n' k s : ℕ} (x : (Pools n).Idx → Ideal .f32) (init : Scalar0.Idx → Ideal .f32)
    (hr : (Pools n).ReduceWindows ![1, 1, k] ![1, 1, s] ![0, 0, 0] ![0, 0, 0] (Pools n')) (h0 : 0 < Scalar0.numel)
    (b : Fin 32) (c : Fin 512) (t : Fin n') (g : ℕ → Ideal .f32) (hn : t.val * s + k ≤ n)
    (hg : ∀ i (h : t.val * s + i < n), x (pool b c ⟨t.val * s + i, h⟩) = g (t.val * s + i)) :
    Host.reduceWindow FloatOps.maximumf ![1, 1, k] ![1, 1, s] ![0, 0, 0] ![0, 0, 0] x init hr h0 (pool b c t)
      = (List.finRange (Shape.numel ⟨3, ![1, 1, k]⟩)).foldl (fun r m => FloatOps.maximumf r (g (t.val * s + m.val))) (init (Shape.Idx.first h0)) := by
  unfold Host.reduceWindow
  dsimp only
  refine congrArg (fun q => List.foldl q _ _) (funext fun r => funext fun m => ?_)
  obtain ⟨z0, z1, z2, hm⟩ := along m
  have p0 : (pool b c t ((0 : Fin 3).cast hr.1.symm)).val * (![1, 1, s] : Fin 3 → ℕ) 0 + ((Shape.rowMajor ⟨3, ![1, 1, k]⟩).symm m 0).val = b.val := by
    rw [z0]; show b.val * 1 + 0 = _; omega
  have p1 : (pool b c t ((1 : Fin 3).cast hr.1.symm)).val * (![1, 1, s] : Fin 3 → ℕ) 1 + ((Shape.rowMajor ⟨3, ![1, 1, k]⟩).symm m 1).val = c.val := by
    rw [z1]; show c.val * 1 + 0 = _; omega
  have p2 : (pool b c t ((2 : Fin 3).cast hr.1.symm)).val * (![1, 1, s] : Fin 3 → ℕ) 2 + ((Shape.rowMajor ⟨3, ![1, 1, k]⟩).symm m 2).val
      = t.val * s + m.val := by rw [z2]; rfl
  have hin : ∀ a : Fin 3, (![0, 0, 0] : Fin 3 → ℕ) a ≤ (pool b c t (a.cast hr.1.symm)).val * (![1, 1, s] : Fin 3 → ℕ) a + ((Shape.rowMajor ⟨3, ![1, 1, k]⟩).symm m a).val
      ∧ (pool b c t (a.cast hr.1.symm)).val * (![1, 1, s] : Fin 3 → ℕ) a + ((Shape.rowMajor ⟨3, ![1, 1, k]⟩).symm m a).val - (![0, 0, 0] : Fin 3 → ℕ) a
        < (Pools n).size a := fun a => by
    match a with
    | 0 => rw [p0]; exact ⟨Nat.zero_le _, b.isLt⟩
    | 1 => rw [p1]; exact ⟨Nat.zero_le _, c.isLt⟩
    | 2 => rw [p2]; exact ⟨Nat.zero_le _, (by omega : t.val * s + m.val < n)⟩
  rw [dif_pos hin, ← hg m.val (by omega)]
  refine congrArg (fun q => FloatOps.maximumf r (x q)) (funext fun a => Fin.ext ?_)
  match a with
  | 0 => exact p0
  | 1 => exact p1
  | 2 => exact p2

/-- Windows of two, one apart. -/
theorem Pooled.two {X : (Pools 64).Idx → Ideal .f32} {n n' l : ℕ} {f : (Pools n).Idx → Ideal .f32} (hf : Pooled X l f) (hj : joins3 (l + 1) = false)
    (hn : n' + 1 ≤ n) {hb : Scalar0.BroadcastsInDim Scalar0 ![]} {hr : (Pools n).ReduceWindows ![1, 1, 2] ![1, 1, 1] ![0, 0, 0] ![0, 0, 0] (Pools n')}
    {h0 : 0 < Scalar0.numel} :
    Pooled X (l + 1) (Host.reduceWindow FloatOps.maximumf ![1, 1, 2] ![1, 1, 1] ![0, 0, 0] ![0, 0, 0] f
      (broadcastInDim Scalar0 ![] hb (constant (F := Ideal) Scalar0 .f32 0xFF800000#32)) hr h0) := by
  intro b c t
  rw [pooled_fold f _ hr h0 b c t (peak X b c l) (by omega) (fun i h => hf b c ⟨_, h⟩), least]
  show max (max (⊥ : EReal) _) _ = _
  rw [bot_sup_eq]
  unfold peak
  rw [lv_succ, hj, Nat.mul_one]
  rfl

/-- Windows of three, two apart. -/
theorem Pooled.three {X : (Pools 64).Idx → Ideal .f32} {n n' l : ℕ} {f : (Pools n).Idx → Ideal .f32} (hf : Pooled X l f) (hj : joins3 (l + 1) = true)
    (hn : 2 * n' + 1 ≤ n) {hb : Scalar0.BroadcastsInDim Scalar0 ![]} {hr : (Pools n).ReduceWindows ![1, 1, 3] ![1, 1, 2] ![0, 0, 0] ![0, 0, 0] (Pools n')}
    {h0 : 0 < Scalar0.numel} :
    Pooled X (l + 1) (Host.reduceWindow FloatOps.maximumf ![1, 1, 3] ![1, 1, 2] ![0, 0, 0] ![0, 0, 0] f
      (broadcastInDim Scalar0 ![] hb (constant (F := Ideal) Scalar0 .f32 0xFF800000#32)) hr h0) := by
  intro b c t
  rw [pooled_fold f _ hr h0 b c t (peak X b c l) (by omega) (fun i h => hf b c ⟨_, h⟩), least]
  show max (max (max (⊥ : EReal) _) _) _ = _
  rw [bot_sup_eq]
  unfold peak
  rw [lv_succ, hj, Nat.mul_comm]
  rfl

end Cert.Proof.Pyramid

end
-- ==== Proof.Value.lean ====
/-
  What the kernel leaves in its result, told of the input: entry `(b, c, i, j)` of the map is the maximum over
  the window that the pyramid has at row `i` and column `j`, zero where it has none.
-/
module

public import proofs.«01_k».proof.Proof.Launch
public import proofs.«01_k».proof.Proof.Levels
public import Idealize.ShloMosaic.Lib.ValueIdxRank6
public import Idealize.ShloMosaic.Lib.IdealHost

@[expose] public section

noncomputable section

namespace Cert.Proof.Pyramid

open Cert.KernelIdeal Cert.KernelIdeal.Gen

open Idealize.ShloMosaic
open Idealize.ShloMosaic.StableHlo

variable {F : FTy → Type} [FloatOps F]

/-- A lane of a window's maximum depends on that lane of the rows alone. -/
theorem lv_lane {row row' : ℕ → FVec F S16 .f32} {k k' : S16.Idx} (h : ∀ t, row t k = row' t k') (l t : ℕ) : lv row l t k = lv row' l t k' := by
  induction l generalizing t with
  | zero => rw [lv_zero, lv_zero]; exact h t
  | succ l ih =>
    rw [lv_succ, lv_succ]
    split
    · exact congrArg₂ FloatOps.maximumf (congrArg₂ FloatOps.maximumf (ih _) (ih _)) (ih _)
    · exact congrArg₂ FloatOps.maximumf (ih _) (ih _)

variable (m : (ℓ : Loc nD τ sig) → Buf (Elt F) ℓ) (d : Dev nD)

/-- The kernel's argument. -/
abbrev arg : (Pools 64).Idx → F .f32 := m (d, ref main_arg0)

/-- The first operand: the argument cut into blocks of eight positions by a hundred and twenty-eight channels. -/
theorem xIn_apply (j : S32x8x4x8x128.Idx) (c : Fin 512) (t : Fin 64) (hc : c.val = 128 * (j 2).val + (j 4).val) (ht : t.val = 8 * (j 1).val + (j 3).val) :
    xIn m d j = arg m d (pool (j 0) c t) := by
  have e : xIn m d = transpose S32x8x4x8x128 [0, 3, 1, 4, 2] (shapeCast S32x4x128x8x8 (arg m d) shapeCasts_S32x512x64_S32x4x128x8x8)
      transposes_S32x4x128x8x8_S32x8x4x8x128_0_3_1_4_2 := by
    unfold xIn atCall
    rw [unary_result_ne _ _ _ _ _ _ (by decide), nullary_result_ne _ _ _ _ (by decide), unary_result, reshape_result, nullary_result_ne _ _ _ _ (by decide)]
    rfl
  let k : S32x4x128x8x8.Idx := fun a => match a with | 0 => j 0 | 1 => j 2 | 2 => j 4 | 3 => j 1 | 4 => j 3
  rw [e, transpose_apply _ _ _ j k (fun b => match b with | 0 => rfl | 1 => rfl | 2 => rfl | 3 => rfl | 4 => rfl)]
  refine shapeCast_apply _ _ k (pool (j 0) c t) ?_
  rw [Shape.rowMajor_val_three, Shape.rowMajor_val_five]
  show ((j 0).val * 512 + c.val) * 64 + t.val = ((((j 0).val * 4 + (j 2).val) * 128 + (j 4).val) * 8 + (j 1).val) * 8 + (j 3).val
  omega

/-- The second operand is zero. -/
theorem zIn_apply (j : S32x8x8x16.Idx) : zIn m d j = FloatOps.ofBits .f32 0x00000000#32 := by
  unfold zIn atCall
  rw [unary_result, nullary_result]
  rfl

/-- The first result: the kernel's output with its axes put back. -/
theorem map_apply (x : Map.Idx) (k : S32x64x8x4x8x128.Idx) (h0 : (k 0).val = (x 0).val) (h1 : (k 1).val = (x 2).val)
    (h2 : 8 * (k 2).val + (k 4).val = (x 3).val) (h3 : 128 * (k 3).val + (k 5).val = (x 1).val) :
    atEnd m d (ref main_v5) x = stamped (xIn m d) (zIn m d) k := by
  have e : atEnd m d (ref main_v5) = shapeCast S32x512x64x64 (transpose S32x4x128x64x8x8 [0, 3, 5, 1, 2, 4] (stamped (xIn m d) (zIn m d))
      transposes_S32x64x8x4x8x128_S32x4x128x64x8x8_0_3_5_1_2_4) shapeCasts_S32x4x128x64x8x8_S32x512x64x64 := by
    unfold atEnd
    rw [unary_result_ne _ _ _ _ _ _ (by decide), unary_result_ne _ _ _ _ _ _ (by decide), reshape_result, unary_result]
    rw [called_out]
    rfl
  let j : S32x4x128x64x8x8.Idx := fun a => match a with | 0 => k 0 | 1 => k 3 | 2 => k 5 | 3 => k 1 | 4 => k 2 | 5 => k 4
  rw [e, shapeCast_apply _ _ x j, transpose_apply _ _ _ j k (fun b => match b with | 0 => rfl | 1 => rfl | 2 => rfl | 3 => rfl | 4 => rfl | 5 => rfl)]
  rw [Shape.rowMajor_val_four, Shape.rowMajor_val_six]
  show (((((k 0).val * 4 + (k 3).val) * 128 + (k 5).val) * 64 + (k 1).val) * 8 + (k 2).val) * 8 + (k 4).val
    = (((x 0).val * 512 + (x 1).val) * 64 + (x 2).val) * 64 + (x 3).val
  omega

/-- A row of a stamp's block, at the lane an element of the output lies in, is the argument at the element's batch and channel. -/
theorem xrow_apply (k : S32x64x8x4x8x128.Idx) (b : Fin 32) (c : Fin 512) (h0 : (k 0).val = b.val) (h3 : 128 * (k 3).val + (k 5).val = c.val) (t : ℕ) :
    xrow (xblk (xIn m d) (k 0).val (unitOf k)) t (lane (placeOf k 3)) = arg m d (pool b c ⟨t % 64, Nat.mod_lt _ (by decide)⟩) := by
  have k3 : (k 3).val < 4 := (k 3).isLt
  have k5 : (k 5).val < 128 := (k 5).isLt
  unfold xrow xblk
  rw [xIn_apply m d _ c ⟨t % 64, Nat.mod_lt _ (by decide)⟩]
  · refine congrArg (fun z => arg m d (pool z _ _)) (Fin.ext ?_)
    show (k 0).val % 32 = b.val
    omega
  · show c.val = 128 * (unitOf k / 8 % 4) + (16 * (unitOf k % 8) + (k 5).val % 16) % 128
    unfold unitOf
    omega
  · show t % 64 = 8 * (t / 8 % 8) + t % 8
    omega

/-- The first result holds the maxima of all thirty-two levels at their positions. -/
theorem map_stored (m : (ℓ : Loc nD τ sig) → Buf (Elt Ideal) ℓ) (d : Dev nD) : Stored (arg m d) 32 (atEnd m d (ref main_v5)) := by
  intro x
  have x1 : (x 1).val < 512 := (x 1).isLt
  have x2 : (x 2).val < 64 := (x 2).isLt
  have x3 : (x 3).val < 64 := (x 3).isLt
  let k : S32x64x8x4x8x128.Idx := fun a => match a with
    | 0 => x 0
    | 1 => x 2
    | 2 => (⟨(x 3).val / 8, by omega⟩ : Fin 8)
    | 3 => (⟨(x 1).val / 128, by omega⟩ : Fin 4)
    | 4 => (⟨(x 3).val % 8, by omega⟩ : Fin 8)
    | 5 => (⟨(x 1).val % 128, by omega⟩ : Fin 128)
  have k3 : 128 * (k 3).val + (k 5).val = (x 1).val := by show 128 * ((x 1).val / 128) + (x 1).val % 128 = _; omega
  have k2 : 8 * (k 2).val + (k 4).val = (x 3).val := by show 8 * ((x 3).val / 8) + (x 3).val % 8 = _; omega
  rw [map_apply m d x k rfl rfl k2 k3]
  have hi : 32 * ((k 1).val / 32) + (placeOf k 0).val = (x 2).val := by show 32 * ((x 2).val / 32) + (x 2).val % 32 = _; omega
  have hj : 8 * (placeOf k 1).val + (placeOf k 2).val = (x 3).val := k2
  unfold stamped cont
  rw [hi, hj]
  have zero : zIn m d (placeOf k) = (0 : EReal) := by
    rw [zIn_apply]
    show Ideal.ofBits .f32 0x00000000#32 = (0 : EReal)
    simp [Ideal.ofBits, Ideal.ieee]
  rcases hp : slot (x 2).val (x 3).val with _ | p
  · exact zero
  · have hl := (pos_of_slot (l := p.1) (t := p.2) hp).2.1
    dsimp only
    rw [if_pos (Or.inl hl : before p 32 0), if_pos hl]
    unfold peak
    exact lv_lane (fun t => xrow_apply m d k (x 0) (x 1) rfl k3 t) _ _

/-- The second result: the mask, for every batch. -/
theorem mask_apply (m : (ℓ : Loc nD τ sig) → Buf (Elt F) ℓ) (d : Dev nD) :
    atEnd m d (ref main_v7) = broadcastInDim S32x1x64x64 ![0, 1, 2, 3] bcast_S1x1x64x64_S32x1x64x64_0_1_2_3
      (broadcastInDim S1x1x64x64 ![2, 3] bcast_S64x64_S1x1x64x64_2_3 (fun i => lit0 (S64x64.rowMajor i))) := by
  unfold atEnd
  rw [unary_result, unary_result, reshape_result_ne _ _ _ _ _ _ _ (by decide), unary_result_ne _ _ _ _ _ _ (by decide), called_of_ne m d (by decide)]
  unfold atCall
  rw [unary_result_ne _ _ _ _ _ _ (by decide), nullary_result_ne _ _ _ _ (by decide), unary_result_ne _ _ _ _ _ _ (by decide),
    reshape_result_ne _ _ _ _ _ _ _ (by decide), nullary_result]
  rfl

end Cert.Proof.Pyramid

end
-- ==== Proof.Reference.lean ====
/-
  The reference's map: every level pooled from the one below and set over the levels below it.
-/
module

public import proofs.«01_k».proof.Proof.Levels
public import proofs.«01_k».proof.Proof.Gen.ReferenceIdeal.Run

@[expose] public section

noncomputable section

namespace Cert.Proof.Pyramid

open Idealize.ShloMosaic Cert.ReferenceIdeal Cert.ReferenceIdeal.Value

variable (V : Valuation Cert.ReferenceIdeal.τ Cert.ReferenceIdeal.sig (Elt Ideal))

/-- The reference's input. -/
abbrev input : (Pools 64).Idx → Ideal .f32 := V (Proc.devRef .tc Cert.ReferenceIdeal.main_arg0)

/-- The levels that the reference pools. -/
theorem pools :
    Pooled (input V) 1 (res_main_v17 V)
    ∧ Pooled (input V) 2 (res_main_v33 V)
    ∧ Pooled (input V) 3 (res_main_v49 V)
    ∧ Pooled (input V) 4 (res_main_v65 V)
    ∧ Pooled (input V) 5 (res_main_v81 V)
    ∧ Pooled (input V) 6 (res_main_v97 V)
    ∧ Pooled (input V) 7 (res_main_v113 V)
    ∧ Pooled (input V) 8 (res_main_v129 V)
    ∧ Pooled (input V) 9 (res_main_v145 V)
    ∧ Pooled (input V) 10 (res_main_v161 V)
    ∧ Pooled (input V) 11 (res_main_v177 V)
    ∧ Pooled (input V) 12 (res_main_v193 V)
    ∧ Pooled (input V) 13 (res_main_v209 V)
    ∧ Pooled (input V) 14 (res_main_v225 V)
    ∧ Pooled (input V) 15 (res_main_v241 V)
    ∧ Pooled (input V) 16 (res_main_v257 V)
    ∧ Pooled (input V) 17 (res_main_v273 V)
    ∧ Pooled (input V) 18 (res_main_v289 V)
    ∧ Pooled (input V) 19 (res_main_v305 V)
    ∧ Pooled (input V) 20 (res_main_v321 V)
    ∧ Pooled (input V) 21 (res_main_v337 V)
    ∧ Pooled (input V) 22 (res_main_v353 V)
    ∧ Pooled (input V) 23 (res_main_v369 V)
    ∧ Pooled (input V) 24 (res_main_v385 V)
    ∧ Pooled (input V) 25 (res_main_v401 V)
    ∧ Pooled (input V) 26 (res_main_v417 V)
    ∧ Pooled (input V) 27 (res_main_v433 V)
    ∧ Pooled (input V) 28 (res_main_v449 V)
    ∧ Pooled (input V) 29 (res_main_v465 V)
    ∧ Pooled (input V) 30 (res_main_v481 V) := by
  have h0 : Pooled (input V) 0 (V (Proc.devRef .tc Cert.ReferenceIdeal.main_arg0)) := pooled_zero _
  have h1 : Pooled (input V) 1 (res_main_v17 V) := h0.two rfl (by decide)
  have h2 : Pooled (input V) 2 (res_main_v33 V) := h1.two rfl (by decide)
  have h3 : Pooled (input V) 3 (res_main_v49 V) := h2.two rfl (by decide)
  have h4 : Pooled (input V) 4 (res_main_v65 V) := h3.two rfl (by decide)
  have h5 : Pooled (input V) 5 (res_main_v81 V) := h4.two rfl (by decide)
  have h6 : Pooled (input V) 6 (res_main_v97 V) := h5.two rfl (by decide)
  have h7 : Pooled (input V) 7 (res_main_v113 V) := h6.two rfl (by decide)
  have h8 : Pooled (input V) 8 (res_main_v129 V) := h7.two rfl (by decide)
  have h9 : Pooled (input V) 9 (res_main_v145 V) := h8.two rfl (by decide)
  have h10 : Pooled (input V) 10 (res_main_v161 V) := h9.two rfl (by decide)
  have h11 : Pooled (input V) 11 (res_main_v177 V) := h10.two rfl (by decide)
  have h12 : Pooled (input V) 12 (res_main_v193 V) := h11.two rfl (by decide)
  have h13 : Pooled (input V) 13 (res_main_v209 V) := h12.two rfl (by decide)
  have h14 : Pooled (input V) 14 (res_main_v225 V) := h13.two rfl (by decide)
  have h15 : Pooled (input V) 15 (res_main_v241 V) := h14.two rfl (by decide)
  have h16 : Pooled (input V) 16 (res_main_v257 V) := h15.three rfl (by decide)
  have h17 : Pooled (input V) 17 (res_main_v273 V) := h16.two rfl (by decide)
  have h18 : Pooled (input V) 18 (res_main_v289 V) := h17.two rfl (by decide)
  have h19 : Pooled (input V) 19 (res_main_v305 V) := h18.two rfl (by decide)
  have h20 : Pooled (input V) 20 (res_main_v321 V) := h19.two rfl (by decide)
  have h21 : Pooled (input V) 21 (res_main_v337 V) := h20.two rfl (by decide)
  have h22 : Pooled (input V) 22 (res_main_v353 V) := h21.two rfl (by decide)
  have h23 : Pooled (input V) 23 (res_main_v369 V) := h22.two rfl (by decide)
  have h24 : Pooled (input V) 24 (res_main_v385 V) := h23.three rfl (by decide)
  have h25 : Pooled (input V) 25 (res_main_v401 V) := h24.two rfl (by decide)
  have h26 : Pooled (input V) 26 (res_main_v417 V) := h25.two rfl (by decide)
  have h27 : Pooled (input V) 27 (res_main_v433 V) := h26.two rfl (by decide)
  have h28 : Pooled (input V) 28 (res_main_v449 V) := h27.two rfl (by decide)
  have h29 : Pooled (input V) 29 (res_main_v465 V) := h28.two rfl (by decide)
  have h30 : Pooled (input V) 30 (res_main_v481 V) := h29.two rfl (by decide)
  exact ⟨h1, h2, h3, h4, h5, h6, h7, h8, h9, h10, h11, h12, h13, h14, h15, h16, h17, h18, h19, h20, h21, h22, h23, h24, h25, h26, h27, h28, h29, h30⟩

/-- A table of ascending words puts window `t` of level 0 at row and column `t`. -/
theorem diagonal (t : Fin 64) : res_main_v1 V (single t) = BitVec.ofNat 32 (pos 0 t.val).1 ∧ res_main_v1 V (single t) = BitVec.ofNat 32 (pos 0 t.val).2 :=
  ⟨rfl, rfl⟩

/-- The map through level 30. -/
theorem stored_31 : Stored (input V) 31 (res_main_v495 V) := by
  obtain ⟨h1, h2, h3, h4, h5, h6, h7, h8, h9, h10, h11, h12, h13, h14, h15, h16, h17, h18, h19, h20, h21, h22, h23, h24, h25, h26, h27, h28, h29, h30⟩ := pools V
  iterate 30
    try unfold res_main_v495
    try unfold res_main_v383
    try unfold res_main_v287
    try unfold res_main_v191
    try unfold res_main_v95
    refine Stored.tables (by assumption) rfl rfl rfl rfl rfl (by decide) (fun _ => rfl) (fun _ => rfl) (by decide +kernel) (by decide +kernel) ?_
  refine Stored.level _ rfl rfl rfl rfl rfl (by decide) (fun t => (diagonal V t).1) (fun t => (diagonal V t).2) (stored_zero _ _ fun x => ?_) (pooled_zero _)
  show Ideal.ofBits .f32 0x00000000#32 = (0 : EReal)
  simp [Ideal.ofBits, Ideal.ieee]

/-- The last level's one window stands in the corner. -/
theorem corner (t : Fin 1) : res_main_c_59 V (single t) = BitVec.ofNat 32 (pos 31 t.val).1 ∧ res_main_c_60 V (single t) = BitVec.ofNat 32 (pos 31 t.val).2 := by
  match t with | 0 => exact ⟨rfl, rfl⟩

/-- The level that `stored_31` leaves pooled. -/
theorem pooled_30 : Pooled (input V) 30 (res_main_v481 V) := by
  obtain ⟨-, -, -, -, -, -, -, -, -, -, -, -, -, -, -, -, -, -, -, -, -, -, -, -, -, -, -, -, -, h⟩ := pools V
  exact h

/-- The last level set over the map: all thirty-two levels. -/
theorem stored_32 {d : ScatterDims Map (Pairs 1) (Pools 1)} {h0 h1 h2 h3 : Scalar0.BroadcastsInDim (Words 1) ![]}
    {ha hb : (Words 1).BroadcastsInDim (Column 1) ![0]} {hc : Shape.Concatenates [Column 1, Column 1] (Pairs 1) 1}
    {hs : Scalar0.BroadcastsInDim Scalar0 ![]} {hr : (Pools 2).ReduceWindows ![1, 1, 2] ![1, 1, 1] ![0, 0, 0] ![0, 0, 0] (Pools 1)}
    {hz : 0 < Scalar0.numel} (hu : d.updateWindowDims = [0, 1]) (hi : d.insertedWindowDims = [2, 3])
    (hd : d.scatterDimsToOperandDims = [2, 3]) (hv : d.indexVectorDim = 1) :
    Stored (input V) 32 (Host.scatter d (fun _ b => b) (res_main_v495 V) (positions (res_main_c_59 V) (res_main_c_60 V) h0 h1 h2 h3 ha hb hc)
      (Host.reduceWindow FloatOps.maximumf ![1, 1, 2] ![1, 1, 1] ![0, 0, 0] ![0, 0, 0] (res_main_v481 V)
        (broadcastInDim Scalar0 ![] hs (constant (F := Ideal) Scalar0 .f32 0xFF800000#32)) hr hz)) :=
  (stored_31 V).level d hu hi hd hv (by decide) (by decide) (fun t => (corner V t).1) (fun t => (corner V t).2)
    ((pooled_30 V).two rfl (by decide))

end Cert.Proof.Pyramid

end
-- ==== Proof.Mask.lean ====
/-
  The mask is one literal in the kernel and one in the reference; they agree.
-/
module

public import proofs.«01_k».proof.Proof.Gen.KernelIdeal
public import proofs.«01_k».proof.Proof.Gen.ReferenceIdeal

@[expose] public section

noncomputable section

namespace Cert.Proof.Pyramid

/-- The kernel's mask is the reference's, entry by entry. -/
theorem mask_eq : ∀ i, Cert.KernelIdeal.lit0 i = Cert.ReferenceIdeal.lit60 i := by decide +kernel

end Cert.Proof.Pyramid

end
-- ==== Proof.Algebraic.lean ====
/-
  The kernel and the reference, run on the same input at the ideal floats, leave the same map and the same mask.
-/
module

public import proofs.«01_k».proof.Proof.Value
public import proofs.«01_k».proof.Proof.Reference
public import proofs.«01_k».proof.Proof.Mask

@[expose] public section

noncomputable section

namespace Cert.Proof.Pyramid

open Idealize.ShloMosaic Idealize.SL.Sem

/-- Two maps that hold the same levels are the same. -/
theorem Stored.unique {X : (Pools 64).Idx → Ideal .f32} {n : ℕ} {f g : Map.Idx → Ideal .f32} (hf : Stored X n f) (hg : Stored X n g) : f = g :=
  funext fun x => (hf x).trans (hg x).symm

/-- The two results agree. -/
theorem algebraic : Cert.algebraic_KernelIdeal_ReferenceIdeal := by
  intro m g m' g' _ hin
  refine ⟨fun c => atEnd m c (ref Cert.KernelIdeal.main_v5), fun c => atEnd m c (ref Cert.KernelIdeal.main_v7), ?_, ?_⟩
  · exact (θ_run Cert.KernelIdeal.defs _ _).mono (fun _ h c => ⟨h.1 c (ref Cert.KernelIdeal.main_v5) (by decide),
      h.1 c (ref Cert.KernelIdeal.main_v7) (by decide), (h.1 c (ref Cert.KernelIdeal.main_arg0) (by decide)).trans (atEnd_arg m c)⟩)
      (run_main (F := Ideal) m g)
  · refine (θ_run Cert.ReferenceIdeal.defs _ _).mono (fun r h c => ?_) (Cert.ReferenceIdeal.Value.run (F := Ideal) m' g')
    obtain ⟨h0, h1, h2⟩ := h c
    refine ⟨h0.trans ?_, h1.trans ?_, h2⟩
    · have e : arg m c = input (StableHlo.launchContents m' c) := (hin c).symm
      have hs : Stored (input (StableHlo.launchContents m' c)) 32 (atEnd m c (ref Cert.KernelIdeal.main_v5)) := e ▸ map_stored m c
      exact Stored.unique (stored_32 (StableHlo.launchContents m' c) rfl rfl rfl rfl) hs
    · have e : (fun i : Cert.KernelIdeal.S64x64.Idx => Cert.ReferenceIdeal.lit60 (Cert.KernelIdeal.S64x64.rowMajor i))
          = fun i => Cert.KernelIdeal.lit0 (Cert.KernelIdeal.S64x64.rowMajor i) := funext fun i => (mask_eq _).symm
      have e' := congrArg (fun z => broadcastInDim Cert.KernelIdeal.S32x1x64x64 ![0, 1, 2, 3] Cert.KernelIdeal.Gen.bcast_S1x1x64x64_S32x1x64x64_0_1_2_3
        (broadcastInDim Cert.KernelIdeal.S1x1x64x64 ![2, 3] Cert.KernelIdeal.Gen.bcast_S64x64_S1x1x64x64_2_3 z)) e
      exact e'.trans (mask_apply m c).symm

end Cert.Proof.Pyramid

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Pyramid.frame_kernel, Pyramid.frame_ideal, Pyramid.frame_reference, trivial, Pyramid.algebraic⟩

end Cert.Proof

end
